-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "qk_scale" .f32 0x3E38AA3B#32 (((8 * (Real.log 2))⁻¹ : ℝ) : EReal)

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.blockN ⟨4, ![4, 256, 16, 64]⟩ ⟨4, ![4, 512, 16, 64]⟩ (Layout.meshBlock [2, 2] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![4, 256, 16, 64]⟩ ⟨4, ![4, 512, 16, 64]⟩ (Layout.meshBlock [2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 256, 16, 64]⟩ ⟨4, ![4, 512, 16, 64]⟩ (Layout.meshBlock [2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.blockN ⟨4, ![4, 256, 16, 64]⟩ ⟨4, ![4, 512, 16, 64]⟩ (Layout.meshBlock [2, 2] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S4x256x16x64 : Shape := ⟨4, ![4, 256, 16, 64]⟩
abbrev S_ : Shape := ⟨0, ![]⟩

class Facts : Prop where
  bcast_S_S4x256x16x64 : S_.BroadcastsInDim S4x256x16x64 (![] : Fin 0 → Fin S4x256x16x64.rank)
  reducesTo_S4x256x16x64_S_d0_1_2_3 : S4x256x16x64.ReducesTo [0, 1, 2, 3] S_
  h_S_ : 0 < S_.numel

variable [Facts]

def fn {F : FTy → Type} [FloatOps F] (main_arg0 : FVec F S4x256x16x64 .f32) (main_arg1 : FVec F S4x256x16x64 .f32) (main_arg2 : FVec F S4x256x16x64 .f32) : IVec S_ 1 :=
  let main_v0 : FVec F S4x256x16x64 .f32 := Host.absf main_arg0
  let main_cst : FVec F S_ .f32 := constant S_ .f32 0x7F800000#32
  let main_v1 : FVec F S4x256x16x64 .f32 := broadcastInDim S4x256x16x64 ![] bcast_S_S4x256x16x64 main_cst
  let main_v2 : IVec S4x256x16x64 1 := cmpf .olt main_v0 main_v1
  let main_c : IVec S_ 1 := constantI S_ 1 1#1
  let main_v3 : IVec S_ 1 := (fun x v => Host.reduce IntOp.andi x v reducesTo_S4x256x16x64_S_d0_1_2_3 h_S_) main_v2 main_c
  let main_v4 : FVec F S4x256x16x64 .f32 := Host.absf main_arg1
  let main_cst_0 : FVec F S_ .f32 := constant S_ .f32 0x7F800000#32
  let main_v5 : FVec F S4x256x16x64 .f32 := broadcastInDim S4x256x16x64 ![] bcast_S_S4x256x16x64 main_cst_0
  let main_v6 : IVec S4x256x16x64 1 := cmpf .olt main_v4 main_v5
  let main_c_1 : IVec S_ 1 := constantI S_ 1 1#1
  let main_v7 : IVec S_ 1 := (fun x v => Host.reduce IntOp.andi x v reducesTo_S4x256x16x64_S_d0_1_2_3 h_S_) main_v6 main_c_1
  let main_v8 : IVec S_ 1 := andi main_v3 main_v7
  main_v8
-- ==== Pre_finite_qk_ReferenceIdeal.lean ====
abbrev S4x512x16x64 : Shape := ⟨4, ![4, 512, 16, 64]⟩
abbrev S_ : Shape := ⟨0, ![]⟩

class Facts : Prop where
  bcast_S_S4x512x16x64 : S_.BroadcastsInDim S4x512x16x64 (![] : Fin 0 → Fin S4x512x16x64.rank)
  reducesTo_S4x512x16x64_S_d0_1_2_3 : S4x512x16x64.ReducesTo [0, 1, 2, 3] S_
  h_S_ : 0 < S_.numel

variable [Facts]

def fn {F : FTy → Type} [FloatOps F] (main_arg0 : FVec F S4x512x16x64 .f32) (main_arg1 : FVec F S4x512x16x64 .f32) (main_arg2 : FVec F S4x512x16x64 .f32) : IVec S_ 1 :=
  let main_v0 : FVec F S4x512x16x64 .f32 := Host.absf main_arg0
  let main_cst : FVec F S_ .f32 := constant S_ .f32 0x7F800000#32
  let main_v1 : FVec F S4x512x16x64 .f32 := broadcastInDim S4x512x16x64 ![] bcast_S_S4x512x16x64 main_cst
  let main_v2 : IVec S4x512x16x64 1 := cmpf .olt main_v0 main_v1
  let main_c : IVec S_ 1 := constantI S_ 1 1#1
  let main_v3 : IVec S_ 1 := (fun x v => Host.reduce IntOp.andi x v reducesTo_S4x512x16x64_S_d0_1_2_3 h_S_) main_v2 main_c
  let main_v4 : FVec F S4x512x16x64 .f32 := Host.absf main_arg1
  let main_cst_0 : FVec F S_ .f32 := constant S_ .f32 0x7F800000#32
  let main_v5 : FVec F S4x512x16x64 .f32 := broadcastInDim S4x512x16x64 ![] bcast_S_S4x512x16x64 main_cst_0
  let main_v6 : IVec S4x512x16x64 1 := cmpf .olt main_v4 main_v5
  let main_c_1 : IVec S_ 1 := constantI S_ 1 1#1
  let main_v7 : IVec S_ 1 := (fun x v => Host.reduce IntOp.andi x v reducesTo_S4x512x16x64_S_d0_1_2_3 h_S_) main_v6 main_c_1
  let main_v8 : IVec S_ 1 := andi main_v3 main_v7
  main_v8
-- ==== Kernel.lean ====
abbrev S4x256x16x64 : Shape := ⟨4, ![4, 256, 16, 64]⟩
abbrev S4x256x1024 : Shape := ⟨3, ![4, 256, 1024]⟩
abbrev S4x256x2048 : Shape := ⟨3, ![4, 256, 2048]⟩
abbrev S4x8x256x256 : Shape := ⟨4, ![4, 8, 256, 256]⟩
abbrev S8 : Shape := ⟨1, ![8]⟩
abbrev S_ : Shape := ⟨0, ![]⟩
abbrev S1 : Shape := ⟨1, ![1]⟩
abbrev S1x64x1024 : Shape := ⟨3, ![1, 64, 1024]⟩
abbrev S256x64 : Shape := ⟨2, ![256, 64]⟩
abbrev S1x256x128 : Shape := ⟨3, ![1, 256, 128]⟩
abbrev S256x128 : Shape := ⟨2, ![256, 128]⟩
abbrev S256x256 : Shape := ⟨2, ![256, 256]⟩
abbrev S1x1x256x256 : Shape := ⟨4, ![1, 1, 256, 256]⟩
abbrev S1x64x2048 : Shape := ⟨3, ![1, 64, 2048]⟩
abbrev S1x256x2048 : Shape := ⟨3, ![1, 256, 2048]⟩
abbrev S256x2048 : Shape := ⟨2, ![256, 2048]⟩
abbrev S1x1x256x128 : Shape := ⟨4, ![1, 1, 256, 128]⟩

abbrev nBuf : Space → Nat
  | .hbm => 11
  | .vmem => 6
  | .smem => 0
  | _ => 0

abbrev bufTy : (tb : Table) → Fin (tcTables nBuf tb) → BufTy
  | .hbm, ⟨0, _⟩ => ⟨S4x256x16x64, .f32⟩
  | .hbm, ⟨1, _⟩ => ⟨S4x256x16x64, .f32⟩
  | .hbm, ⟨2, _⟩ => ⟨S4x256x16x64, .f32⟩
  | .hbm, ⟨3, _⟩ => ⟨S4x256x16x64, .bf16⟩
  | .hbm, ⟨4, _⟩ => ⟨S4x256x1024, .bf16⟩
  | .hbm, ⟨5, _⟩ => ⟨S4x256x16x64, .bf16⟩
  | .hbm, ⟨6, _⟩ => ⟨S4x256x1024, .bf16⟩
  | .hbm, ⟨7, _⟩ => ⟨S4x256x16x64, .bf16⟩
  | .hbm, ⟨8, _⟩ => ⟨S4x256x1024, .bf16⟩
  | .hbm, ⟨9, _⟩ => ⟨S4x256x1024, .f32⟩
  | .hbm, ⟨10, _⟩ => ⟨S4x256x16x64, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .f32⟩
  | .local _ .vmem, ⟨4, _⟩ => ⟨S4x256x2048, .bf16⟩
  | .local _ .vmem, ⟨5, _⟩ => ⟨S4x8x256x256, .f32⟩
  | _, _ => ⟨S4x256x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v12 : BitVec 32 := Scalar.muli v2 c2_i32_8
  let v13 : BitVec 32 := Scalar.addi c0_i32 v12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_9 : BitVec 32 := 1#32
  let v14 : BitVec 32 := Scalar.muli v6 c1_i32_9
  let v15 : BitVec 32 := Scalar.addi v13 v14
  v15.toNat
def k0_dev2 (d0 : Dev nD) : Nat :=
  let c0_i32_12 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_11 : BitVec 32 := 2#32
  let v16 : BitVec 32 := Scalar.muli v7 c2_i32_11
  let v17 : BitVec 32 := Scalar.addi c0_i32_12 v16
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v18 : BitVec 32 := Scalar.muli v5 c1_i32_13
  let v19 : BitVec 32 := Scalar.addi v17 v18
  v19.toNat
def k0_off1 (d0 : Dev nD) (c0_i32_15 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v20 : BitVec 32 := Scalar.addi v8 c0_i32_15
  let c0_i32_28 : BitVec 32 := 0#32
  let c0_i32_29 : BitVec 32 := 0#32
  ![v20.toNat, 0, 0]
def k0_off2 (d0 : Dev nD) (c0_i32_15 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v20 : BitVec 32 := Scalar.addi v8 c0_i32_15
  let c0_i32_30 : BitVec 32 := 0#32
  let c0_i32_31 : BitVec 32 := 0#32
  ![v20.toNat, 0, 0]
def k0_dev3 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v28 : BitVec 32 := Scalar.muli v2 c2_i32_25
  let v29 : BitVec 32 := Scalar.addi c0_i32_26 v28
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v30 : BitVec 32 := Scalar.muli v6 c1_i32_27
  let v31 : BitVec 32 := Scalar.addi v29 v30
  v31.toNat
def k0_off3 (d0 : Dev nD) (c0_i32_15 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v20 : BitVec 32 := Scalar.addi v8 c0_i32_15
  let c0_i32_37 : BitVec 32 := 0#32
  let c1024_i32 : BitVec 32 := 1024#32
  ![v20.toNat, 0, 1024]
def k0_dev4 (d0 : Dev nD) : Nat :=
  let c0_i32_35 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_34 : BitVec 32 := 2#32
  let v38 : BitVec 32 := Scalar.muli v2 c2_i32_34
  let v39 : BitVec 32 := Scalar.addi c0_i32_35 v38
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_36 : BitVec 32 := 1#32
  let v40 : BitVec 32 := Scalar.muli v6 c1_i32_36
  let v41 : BitVec 32 := Scalar.addi v39 v40
  v41.toNat
def k0_off4 (d0 : Dev nD) (c0_i32_16 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v21 : BitVec 32 := Scalar.addi v8 c0_i32_16
  let c64_i32 : BitVec 32 := 64#32
  let c0_i32_45 : BitVec 32 := 0#32
  ![v21.toNat, 64, 0]
def k0_off5 (d0 : Dev nD) (c0_i32_16 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v21 : BitVec 32 := Scalar.addi v8 c0_i32_16
  let c64_i32_46 : BitVec 32 := 64#32
  let c0_i32_47 : BitVec 32 := 0#32
  ![v21.toNat, 64, 0]
def k0_dev5 (d0 : Dev nD) : Nat :=
  let c0_i32_43 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_42 : BitVec 32 := 2#32
  let v48 : BitVec 32 := Scalar.muli v2 c2_i32_42
  let v49 : BitVec 32 := Scalar.addi c0_i32_43 v48
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_44 : BitVec 32 := 1#32
  let v50 : BitVec 32 := Scalar.muli v6 c1_i32_44
  let v51 : BitVec 32 := Scalar.addi v49 v50
  v51.toNat
def k0_off6 (d0 : Dev nD) (c0_i32_16 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v21 : BitVec 32 := Scalar.addi v8 c0_i32_16
  let c64_i32_53 : BitVec 32 := 64#32
  let c1024_i32_54 : BitVec 32 := 1024#32
  ![v21.toNat, 64, 1024]
def k0_dev6 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v58 : BitVec 32 := Scalar.muli v2 c2_i32_50
  let v59 : BitVec 32 := Scalar.addi c0_i32_51 v58
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_52 : BitVec 32 := 1#32
  let v60 : BitVec 32 := Scalar.muli v6 c1_i32_52
  let v61 : BitVec 32 := Scalar.addi v59 v60
  v61.toNat
def k0_off7 (d0 : Dev nD) (c0_i32_17 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v22 : BitVec 32 := Scalar.addi v8 c0_i32_17
  let c128_i32 : BitVec 32 := 128#32
  let c0_i32_62 : BitVec 32 := 0#32
  ![v22.toNat, 128, 0]
def k0_off8 (d0 : Dev nD) (c0_i32_17 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v22 : BitVec 32 := Scalar.addi v8 c0_i32_17
  let c128_i32_63 : BitVec 32 := 128#32
  let c0_i32_64 : BitVec 32 := 0#32
  ![v22.toNat, 128, 0]
def k0_dev7 (d0 : Dev nD) : Nat :=
  let c0_i32_60 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_59 : BitVec 32 := 2#32
  let v68 : BitVec 32 := Scalar.muli v2 c2_i32_59
  let v69 : BitVec 32 := Scalar.addi c0_i32_60 v68
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_61 : BitVec 32 := 1#32
  let v70 : BitVec 32 := Scalar.muli v6 c1_i32_61
  let v71 : BitVec 32 := Scalar.addi v69 v70
  v71.toNat
def k0_off9 (d0 : Dev nD) (c0_i32_17 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v22 : BitVec 32 := Scalar.addi v8 c0_i32_17
  let c128_i32_70 : BitVec 32 := 128#32
  let c1024_i32_71 : BitVec 32 := 1024#32
  ![v22.toNat, 128, 1024]
def k0_dev8 (d0 : Dev nD) : Nat :=
  let c0_i32_68 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_67 : BitVec 32 := 2#32
  let v78 : BitVec 32 := Scalar.muli v2 c2_i32_67
  let v79 : BitVec 32 := Scalar.addi c0_i32_68 v78
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_69 : BitVec 32 := 1#32
  let v80 : BitVec 32 := Scalar.muli v6 c1_i32_69
  let v81 : BitVec 32 := Scalar.addi v79 v80
  v81.toNat
def k0_off10 (d0 : Dev nD) (c0_i32_18 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v23 : BitVec 32 := Scalar.addi v8 c0_i32_18
  let c192_i32 : BitVec 32 := 192#32
  let c0_i32_78 : BitVec 32 := 0#32
  ![v23.toNat, 192, 0]
def k0_off11 (d0 : Dev nD) (c0_i32_18 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v23 : BitVec 32 := Scalar.addi v8 c0_i32_18
  let c192_i32_79 : BitVec 32 := 192#32
  let c0_i32_80 : BitVec 32 := 0#32
  ![v23.toNat, 192, 0]
def k0_dev9 (d0 : Dev nD) : Nat :=
  let c0_i32_76 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_75 : BitVec 32 := 2#32
  let v88 : BitVec 32 := Scalar.muli v2 c2_i32_75
  let v89 : BitVec 32 := Scalar.addi c0_i32_76 v88
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_77 : BitVec 32 := 1#32
  let v90 : BitVec 32 := Scalar.muli v6 c1_i32_77
  let v91 : BitVec 32 := Scalar.addi v89 v90
  v91.toNat
def k0_off12 (d0 : Dev nD) (c0_i32_18 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v23 : BitVec 32 := Scalar.addi v8 c0_i32_18
  let c192_i32_86 : BitVec 32 := 192#32
  let c1024_i32_87 : BitVec 32 := 1024#32
  ![v23.toNat, 192, 1024]
def k0_dev10 (d0 : Dev nD) : Nat :=
  let c0_i32_84 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_83 : BitVec 32 := 2#32
  let v98 : BitVec 32 := Scalar.muli v2 c2_i32_83
  let v99 : BitVec 32 := Scalar.addi c0_i32_84 v98
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_85 : BitVec 32 := 1#32
  let v100 : BitVec 32 := Scalar.muli v6 c1_i32_85
  let v101 : BitVec 32 := Scalar.addi v99 v100
  v101.toNat
def k0_dev11 (d0 : Dev nD) : Nat :=
  let c0_i32_92 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_91 : BitVec 32 := 2#32
  let v108 : BitVec 32 := Scalar.muli v2 c2_i32_91
  let v109 : BitVec 32 := Scalar.addi c0_i32_92 v108
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_93 : BitVec 32 := 1#32
  let v110 : BitVec 32 := Scalar.muli v6 c1_i32_93
  let v111 : BitVec 32 := Scalar.addi v109 v110
  v111.toNat
def k0_dev12 (d0 : Dev nD) : Nat :=
  let c0_i32_101 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_100 : BitVec 32 := 2#32
  let v118 : BitVec 32 := Scalar.muli v2 c2_i32_100
  let v119 : BitVec 32 := Scalar.addi c0_i32_101 v118
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_102 : BitVec 32 := 1#32
  let v120 : BitVec 32 := Scalar.muli v6 c1_i32_102
  let v121 : BitVec 32 := Scalar.addi v119 v120
  v121.toNat
def k0_dev13 (d0 : Dev nD) : Nat :=
  let c0_i32_109 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_108 : BitVec 32 := 2#32
  let v128 : BitVec 32 := Scalar.muli v2 c2_i32_108
  let v129 : BitVec 32 := Scalar.addi c0_i32_109 v128
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_110 : BitVec 32 := 1#32
  let v130 : BitVec 32 := Scalar.muli v6 c1_i32_110
  let v131 : BitVec 32 := Scalar.addi v129 v130
  v131.toNat
def k0_dev14 (d0 : Dev nD) : Nat :=
  let c0_i32_118 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_117 : BitVec 32 := 2#32
  let v138 : BitVec 32 := Scalar.muli v2 c2_i32_117
  let v139 : BitVec 32 := Scalar.addi c0_i32_118 v138
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_119 : BitVec 32 := 1#32
  let v140 : BitVec 32 := Scalar.muli v6 c1_i32_119
  let v141 : BitVec 32 := Scalar.addi v139 v140
  v141.toNat
def k0_dev15 (d0 : Dev nD) : Nat :=
  let c0_i32_126 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_125 : BitVec 32 := 2#32
  let v148 : BitVec 32 := Scalar.muli v2 c2_i32_125
  let v149 : BitVec 32 := Scalar.addi c0_i32_126 v148
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_127 : BitVec 32 := 1#32
  let v150 : BitVec 32 := Scalar.muli v6 c1_i32_127
  let v151 : BitVec 32 := Scalar.addi v149 v150
  v151.toNat
def k0_dev16 (d0 : Dev nD) : Nat :=
  let c0_i32_135 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_134 : BitVec 32 := 2#32
  let v158 : BitVec 32 := Scalar.muli v2 c2_i32_134
  let v159 : BitVec 32 := Scalar.addi c0_i32_135 v158
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_136 : BitVec 32 := 1#32
  let v160 : BitVec 32 := Scalar.muli v6 c1_i32_136
  let v161 : BitVec 32 := Scalar.addi v159 v160
  v161.toNat
def k0_dev17 (d0 : Dev nD) : Nat :=
  let c0_i32_143 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_142 : BitVec 32 := 2#32
  let v168 : BitVec 32 := Scalar.muli v2 c2_i32_142
  let v169 : BitVec 32 := Scalar.addi c0_i32_143 v168
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_144 : BitVec 32 := 1#32
  let v170 : BitVec 32 := Scalar.muli v6 c1_i32_144
  let v171 : BitVec 32 := Scalar.addi v169 v170
  v171.toNat
def k0_dev18 (d0 : Dev nD) : Nat :=
  let c0_i32_152 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_151 : BitVec 32 := 2#32
  let v178 : BitVec 32 := Scalar.muli v2 c2_i32_151
  let v179 : BitVec 32 := Scalar.addi c0_i32_152 v178
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_153 : BitVec 32 := 1#32
  let v180 : BitVec 32 := Scalar.muli v6 c1_i32_153
  let v181 : BitVec 32 := Scalar.addi v179 v180
  v181.toNat
def k0_off13 (d0 : Dev nD) (c0_i32_15 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v20 : BitVec 32 := Scalar.addi v8 c0_i32_15
  let c0_i32_246 : BitVec 32 := 0#32
  let c0_i32_247 : BitVec 32 := 0#32
  ![v20.toNat, 0, 0]
def k0_dev19 (d0 : Dev nD) : Nat :=
  let c0_i32_244 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_243 : BitVec 32 := 2#32
  let v325 : BitVec 32 := Scalar.muli v7 c2_i32_243
  let v326 : BitVec 32 := Scalar.addi c0_i32_244 v325
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_245 : BitVec 32 := 1#32
  let v327 : BitVec 32 := Scalar.muli v5 c1_i32_245
  let v328 : BitVec 32 := Scalar.addi v326 v327
  v328.toNat
def k0_off14 (d0 : Dev nD) (c0_i32_16 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v21 : BitVec 32 := Scalar.addi v8 c0_i32_16
  let c64_i32_337 : BitVec 32 := 64#32
  let c0_i32_338 : BitVec 32 := 0#32
  ![v21.toNat, 64, 0]
def k0_dev20 (d0 : Dev nD) : Nat :=
  let c0_i32_335 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_334 : BitVec 32 := 2#32
  let v471 : BitVec 32 := Scalar.muli v7 c2_i32_334
  let v472 : BitVec 32 := Scalar.addi c0_i32_335 v471
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_336 : BitVec 32 := 1#32
  let v473 : BitVec 32 := Scalar.muli v5 c1_i32_336
  let v474 : BitVec 32 := Scalar.addi v472 v473
  v474.toNat
def k0_off15 (d0 : Dev nD) (c0_i32_17 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v22 : BitVec 32 := Scalar.addi v8 c0_i32_17
  let c128_i32_436 : BitVec 32 := 128#32
  let c0_i32_437 : BitVec 32 := 0#32
  ![v22.toNat, 128, 0]
def k0_dev21 (d0 : Dev nD) : Nat :=
  let c0_i32_434 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_433 : BitVec 32 := 2#32
  let v617 : BitVec 32 := Scalar.muli v7 c2_i32_433
  let v618 : BitVec 32 := Scalar.addi c0_i32_434 v617
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_435 : BitVec 32 := 1#32
  let v619 : BitVec 32 := Scalar.muli v5 c1_i32_435
  let v620 : BitVec 32 := Scalar.addi v618 v619
  v620.toNat
def k0_off16 (d0 : Dev nD) (c0_i32_18 : BitVec 32) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v23 : BitVec 32 := Scalar.addi v8 c0_i32_18
  let c192_i32_535 : BitVec 32 := 192#32
  let c0_i32_536 : BitVec 32 := 0#32
  ![v23.toNat, 192, 0]
def k0_dev22 (d0 : Dev nD) : Nat :=
  let c0_i32_533 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_532 : BitVec 32 := 2#32
  let v763 : BitVec 32 := Scalar.muli v7 c2_i32_532
  let v764 : BitVec 32 := Scalar.addi c0_i32_533 v763
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_534 : BitVec 32 := 1#32
  let v765 : BitVec 32 := Scalar.muli v5 c1_i32_534
  let v766 : BitVec 32 := Scalar.addi v764 v765
  v766.toNat
def k0_off17 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v893 : Index := Scalar.indexCast v8
  let c0_611 : Index := 0#32
  let c0_612 : Index := 0#32
  ![v893.toNat, 0, 0]
def k0_off18 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v900 : Index := Scalar.indexCast v8
  let c0_614 : Index := 0#32
  let c0_615 : Index := 0#32
  ![v900.toNat, 0, 0]
def k0_off19 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v911 : Index := Scalar.indexCast v8
  let c0_618 : Index := 0#32
  let c0_619 : Index := 0#32
  let c0_620 : Index := 0#32
  ![v911.toNat, 0, 0, 0]
def k0_off20 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v926 : Index := Scalar.indexCast v8
  let c0_623 : Index := 0#32
  let c0_624 : Index := 0#32
  let c128_625 : Index := 128#32
  ![v926.toNat, 0, 0, 128]
def k0_off21 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v938 : Index := Scalar.indexCast v8
  let c0_628 : Index := 0#32
  let c128_629 : Index := 128#32
  ![v938.toNat, 0, 128]
def k0_off22 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v956 : Index := Scalar.indexCast v8
  let c1_635 : Index := 1#32
  let c0_636 : Index := 0#32
  let c0_637 : Index := 0#32
  ![v956.toNat, 1, 0, 0]
def k0_off23 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v971 : Index := Scalar.indexCast v8
  let c1_640 : Index := 1#32
  let c0_641 : Index := 0#32
  let c128_642 : Index := 128#32
  ![v971.toNat, 1, 0, 128]
def k0_dev23 (d0 : Dev nD) : Nat :=
  let c0_i32_666 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_665 : BitVec 32 := 2#32
  let v999 : BitVec 32 := Scalar.muli v7 c2_i32_665
  let v1000 : BitVec 32 := Scalar.addi c0_i32_666 v999
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_667 : BitVec 32 := 1#32
  let v1001 : BitVec 32 := Scalar.muli v5 c1_i32_667
  let v1002 : BitVec 32 := Scalar.addi v1000 v1001
  v1002.toNat
def k0_off24 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1129 : Index := Scalar.indexCast v8
  let c0_744 : Index := 0#32
  let c256_745 : Index := 256#32
  ![v1129.toNat, 0, 256]
def k0_off25 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1147 : Index := Scalar.indexCast v8
  let c2_751 : Index := 2#32
  let c0_752 : Index := 0#32
  let c0_753 : Index := 0#32
  ![v1147.toNat, 2, 0, 0]
def k0_off26 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1162 : Index := Scalar.indexCast v8
  let c2_756 : Index := 2#32
  let c0_757 : Index := 0#32
  let c128_758 : Index := 128#32
  ![v1162.toNat, 2, 0, 128]
def k0_off27 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1174 : Index := Scalar.indexCast v8
  let c0_761 : Index := 0#32
  let c384_762 : Index := 384#32
  ![v1174.toNat, 0, 384]
def k0_off28 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1192 : Index := Scalar.indexCast v8
  let c3_768 : Index := 3#32
  let c0_769 : Index := 0#32
  let c0_770 : Index := 0#32
  ![v1192.toNat, 3, 0, 0]
def k0_off29 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1207 : Index := Scalar.indexCast v8
  let c3_773 : Index := 3#32
  let c0_774 : Index := 0#32
  let c128_775 : Index := 128#32
  ![v1207.toNat, 3, 0, 128]
def k0_dev24 (d0 : Dev nD) : Nat :=
  let c0_i32_799 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_798 : BitVec 32 := 2#32
  let v1235 : BitVec 32 := Scalar.muli v7 c2_i32_798
  let v1236 : BitVec 32 := Scalar.addi c0_i32_799 v1235
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_800 : BitVec 32 := 1#32
  let v1237 : BitVec 32 := Scalar.muli v5 c1_i32_800
  let v1238 : BitVec 32 := Scalar.addi v1236 v1237
  v1238.toNat
def k0_off30 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1365 : Index := Scalar.indexCast v8
  let c0_877 : Index := 0#32
  let c512_878 : Index := 512#32
  ![v1365.toNat, 0, 512]
def k0_off31 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1383 : Index := Scalar.indexCast v8
  let c4_884 : Index := 4#32
  let c0_885 : Index := 0#32
  let c0_886 : Index := 0#32
  ![v1383.toNat, 4, 0, 0]
def k0_off32 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1398 : Index := Scalar.indexCast v8
  let c4_889 : Index := 4#32
  let c0_890 : Index := 0#32
  let c128_891 : Index := 128#32
  ![v1398.toNat, 4, 0, 128]
def k0_off33 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1410 : Index := Scalar.indexCast v8
  let c0_894 : Index := 0#32
  let c640_895 : Index := 640#32
  ![v1410.toNat, 0, 640]
def k0_off34 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1428 : Index := Scalar.indexCast v8
  let c5_901 : Index := 5#32
  let c0_902 : Index := 0#32
  let c0_903 : Index := 0#32
  ![v1428.toNat, 5, 0, 0]
def k0_off35 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1443 : Index := Scalar.indexCast v8
  let c5_906 : Index := 5#32
  let c0_907 : Index := 0#32
  let c128_908 : Index := 128#32
  ![v1443.toNat, 5, 0, 128]
def k0_dev25 (d0 : Dev nD) : Nat :=
  let c0_i32_932 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_931 : BitVec 32 := 2#32
  let v1471 : BitVec 32 := Scalar.muli v7 c2_i32_931
  let v1472 : BitVec 32 := Scalar.addi c0_i32_932 v1471
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_933 : BitVec 32 := 1#32
  let v1473 : BitVec 32 := Scalar.muli v5 c1_i32_933
  let v1474 : BitVec 32 := Scalar.addi v1472 v1473
  v1474.toNat
def k0_off36 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1601 : Index := Scalar.indexCast v8
  let c0_1010 : Index := 0#32
  let c768_1011 : Index := 768#32
  ![v1601.toNat, 0, 768]
def k0_off37 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1619 : Index := Scalar.indexCast v8
  let c6_1017 : Index := 6#32
  let c0_1018 : Index := 0#32
  let c0_1019 : Index := 0#32
  ![v1619.toNat, 6, 0, 0]
def k0_off38 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1634 : Index := Scalar.indexCast v8
  let c6_1022 : Index := 6#32
  let c0_1023 : Index := 0#32
  let c128_1024 : Index := 128#32
  ![v1634.toNat, 6, 0, 128]
def k0_off39 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1646 : Index := Scalar.indexCast v8
  let c0_1027 : Index := 0#32
  let c896_1028 : Index := 896#32
  ![v1646.toNat, 0, 896]
def k0_off40 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1664 : Index := Scalar.indexCast v8
  let c7_1034 : Index := 7#32
  let c0_1035 : Index := 0#32
  let c0_1036 : Index := 0#32
  ![v1664.toNat, 7, 0, 0]
def k0_off41 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v1679 : Index := Scalar.indexCast v8
  let c7_1039 : Index := 7#32
  let c0_1040 : Index := 0#32
  let c128_1041 : Index := 128#32
  ![v1679.toNat, 7, 0, 128]
def k0_dev26 (d0 : Dev nD) : Nat :=
  let c0_i32_1065 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1064 : BitVec 32 := 2#32
  let v1707 : BitVec 32 := Scalar.muli v7 c2_i32_1064
  let v1708 : BitVec 32 := Scalar.addi c0_i32_1065 v1707
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1066 : BitVec 32 := 1#32
  let v1709 : BitVec 32 := Scalar.muli v5 c1_i32_1066
  let v1710 : BitVec 32 := Scalar.addi v1708 v1709
  v1710.toNat
def k0_off42 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1071 : BitVec 32 := 1#32
  let v1717 : BitVec 32 := Scalar.addi v8 c1_i32_1071
  let v1718 : Index := Scalar.indexCast v1717
  let c0_1072 : Index := 0#32
  let c0_1073 : Index := 0#32
  ![v1718.toNat, 0, 0]
def k0_off43 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1071 : BitVec 32 := 1#32
  let v1717 : BitVec 32 := Scalar.addi v8 c1_i32_1071
  let v1725 : Index := Scalar.indexCast v1717
  let c0_1075 : Index := 0#32
  let c0_1076 : Index := 0#32
  ![v1725.toNat, 0, 0]
def k0_off44 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1071 : BitVec 32 := 1#32
  let v1717 : BitVec 32 := Scalar.addi v8 c1_i32_1071
  let v1736 : Index := Scalar.indexCast v1717
  let c0_1079 : Index := 0#32
  let c0_1080 : Index := 0#32
  let c0_1081 : Index := 0#32
  ![v1736.toNat, 0, 0, 0]
def k0_off45 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1071 : BitVec 32 := 1#32
  let v1717 : BitVec 32 := Scalar.addi v8 c1_i32_1071
  let v1751 : Index := Scalar.indexCast v1717
  let c0_1084 : Index := 0#32
  let c0_1085 : Index := 0#32
  let c128_1086 : Index := 128#32
  ![v1751.toNat, 0, 0, 128]
def k0_off46 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1089 : BitVec 32 := 1#32
  let v1763 : BitVec 32 := Scalar.addi v8 c1_i32_1089
  let v1764 : Index := Scalar.indexCast v1763
  let c0_1090 : Index := 0#32
  let c128_1091 : Index := 128#32
  ![v1764.toNat, 0, 128]
def k0_off47 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1089 : BitVec 32 := 1#32
  let v1763 : BitVec 32 := Scalar.addi v8 c1_i32_1089
  let v1782 : Index := Scalar.indexCast v1763
  let c1_1097 : Index := 1#32
  let c0_1098 : Index := 0#32
  let c0_1099 : Index := 0#32
  ![v1782.toNat, 1, 0, 0]
def k0_off48 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1089 : BitVec 32 := 1#32
  let v1763 : BitVec 32 := Scalar.addi v8 c1_i32_1089
  let v1797 : Index := Scalar.indexCast v1763
  let c1_1102 : Index := 1#32
  let c0_1103 : Index := 0#32
  let c128_1104 : Index := 128#32
  ![v1797.toNat, 1, 0, 128]
def k0_off49 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1107 : BitVec 32 := 1#32
  let v1809 : BitVec 32 := Scalar.addi v8 c1_i32_1107
  let v1810 : Index := Scalar.indexCast v1809
  let c0_1108 : Index := 0#32
  let c256_1109 : Index := 256#32
  ![v1810.toNat, 0, 256]
def k0_off50 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1107 : BitVec 32 := 1#32
  let v1809 : BitVec 32 := Scalar.addi v8 c1_i32_1107
  let v1828 : Index := Scalar.indexCast v1809
  let c2_1115 : Index := 2#32
  let c0_1116 : Index := 0#32
  let c0_1117 : Index := 0#32
  ![v1828.toNat, 2, 0, 0]
def k0_off51 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1107 : BitVec 32 := 1#32
  let v1809 : BitVec 32 := Scalar.addi v8 c1_i32_1107
  let v1843 : Index := Scalar.indexCast v1809
  let c2_1120 : Index := 2#32
  let c0_1121 : Index := 0#32
  let c128_1122 : Index := 128#32
  ![v1843.toNat, 2, 0, 128]
def k0_off52 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1125 : BitVec 32 := 1#32
  let v1855 : BitVec 32 := Scalar.addi v8 c1_i32_1125
  let v1856 : Index := Scalar.indexCast v1855
  let c0_1126 : Index := 0#32
  let c384_1127 : Index := 384#32
  ![v1856.toNat, 0, 384]
def k0_off53 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1125 : BitVec 32 := 1#32
  let v1855 : BitVec 32 := Scalar.addi v8 c1_i32_1125
  let v1874 : Index := Scalar.indexCast v1855
  let c3_1133 : Index := 3#32
  let c0_1134 : Index := 0#32
  let c0_1135 : Index := 0#32
  ![v1874.toNat, 3, 0, 0]
def k0_off54 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1125 : BitVec 32 := 1#32
  let v1855 : BitVec 32 := Scalar.addi v8 c1_i32_1125
  let v1889 : Index := Scalar.indexCast v1855
  let c3_1138 : Index := 3#32
  let c0_1139 : Index := 0#32
  let c128_1140 : Index := 128#32
  ![v1889.toNat, 3, 0, 128]
def k0_off55 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1143 : BitVec 32 := 1#32
  let v1901 : BitVec 32 := Scalar.addi v8 c1_i32_1143
  let v1902 : Index := Scalar.indexCast v1901
  let c0_1144 : Index := 0#32
  let c512_1145 : Index := 512#32
  ![v1902.toNat, 0, 512]
def k0_off56 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1143 : BitVec 32 := 1#32
  let v1901 : BitVec 32 := Scalar.addi v8 c1_i32_1143
  let v1920 : Index := Scalar.indexCast v1901
  let c4_1151 : Index := 4#32
  let c0_1152 : Index := 0#32
  let c0_1153 : Index := 0#32
  ![v1920.toNat, 4, 0, 0]
def k0_off57 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1143 : BitVec 32 := 1#32
  let v1901 : BitVec 32 := Scalar.addi v8 c1_i32_1143
  let v1935 : Index := Scalar.indexCast v1901
  let c4_1156 : Index := 4#32
  let c0_1157 : Index := 0#32
  let c128_1158 : Index := 128#32
  ![v1935.toNat, 4, 0, 128]
def k0_off58 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1161 : BitVec 32 := 1#32
  let v1947 : BitVec 32 := Scalar.addi v8 c1_i32_1161
  let v1948 : Index := Scalar.indexCast v1947
  let c0_1162 : Index := 0#32
  let c640_1163 : Index := 640#32
  ![v1948.toNat, 0, 640]
def k0_off59 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1161 : BitVec 32 := 1#32
  let v1947 : BitVec 32 := Scalar.addi v8 c1_i32_1161
  let v1966 : Index := Scalar.indexCast v1947
  let c5_1169 : Index := 5#32
  let c0_1170 : Index := 0#32
  let c0_1171 : Index := 0#32
  ![v1966.toNat, 5, 0, 0]
def k0_off60 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1161 : BitVec 32 := 1#32
  let v1947 : BitVec 32 := Scalar.addi v8 c1_i32_1161
  let v1981 : Index := Scalar.indexCast v1947
  let c5_1174 : Index := 5#32
  let c0_1175 : Index := 0#32
  let c128_1176 : Index := 128#32
  ![v1981.toNat, 5, 0, 128]
def k0_off61 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1179 : BitVec 32 := 1#32
  let v1993 : BitVec 32 := Scalar.addi v8 c1_i32_1179
  let v1994 : Index := Scalar.indexCast v1993
  let c0_1180 : Index := 0#32
  let c768_1181 : Index := 768#32
  ![v1994.toNat, 0, 768]
def k0_off62 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1179 : BitVec 32 := 1#32
  let v1993 : BitVec 32 := Scalar.addi v8 c1_i32_1179
  let v2012 : Index := Scalar.indexCast v1993
  let c6_1187 : Index := 6#32
  let c0_1188 : Index := 0#32
  let c0_1189 : Index := 0#32
  ![v2012.toNat, 6, 0, 0]
def k0_off63 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1179 : BitVec 32 := 1#32
  let v1993 : BitVec 32 := Scalar.addi v8 c1_i32_1179
  let v2027 : Index := Scalar.indexCast v1993
  let c6_1192 : Index := 6#32
  let c0_1193 : Index := 0#32
  let c128_1194 : Index := 128#32
  ![v2027.toNat, 6, 0, 128]
def k0_off64 (d0 : Dev nD) : Fin 3 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1197 : BitVec 32 := 1#32
  let v2039 : BitVec 32 := Scalar.addi v8 c1_i32_1197
  let v2040 : Index := Scalar.indexCast v2039
  let c0_1198 : Index := 0#32
  let c896_1199 : Index := 896#32
  ![v2040.toNat, 0, 896]
def k0_off65 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1197 : BitVec 32 := 1#32
  let v2039 : BitVec 32 := Scalar.addi v8 c1_i32_1197
  let v2058 : Index := Scalar.indexCast v2039
  let c7_1205 : Index := 7#32
  let c0_1206 : Index := 0#32
  let c0_1207 : Index := 0#32
  ![v2058.toNat, 7, 0, 0]
def k0_off66 (d0 : Dev nD) : Fin 4 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let c1_i32_1197 : BitVec 32 := 1#32
  let v2039 : BitVec 32 := Scalar.addi v8 c1_i32_1197
  let v2073 : Index := Scalar.indexCast v2039
  let c7_1210 : Index := 7#32
  let c0_1211 : Index := 0#32
  let c128_1212 : Index := 128#32
  ![v2073.toNat, 7, 0, 128]
def k0_off67 (d0 : Dev nD) (c0_i32_1455 : BitVec 32) : Fin 3 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2245 : BitVec 32 := Scalar.addi v10 c0_i32_1455
  let v2246 : Index := Scalar.indexCast v2245
  let c0_1456 : Index := 0#32
  let c0_1457 : Index := 0#32
  ![v2246.toNat, 0, 0]
def k0_off68 (d0 : Dev nD) (c0_i32_1455 : BitVec 32) : Fin 3 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2245 : BitVec 32 := Scalar.addi v10 c0_i32_1455
  let v2253 : Index := Scalar.indexCast v2245
  let c0_1459 : Index := 0#32
  let c0_1460 : Index := 0#32
  ![v2253.toNat, 0, 0]
def k0_off69 (d0 : Dev nD) (c0_i32_1455 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2245 : BitVec 32 := Scalar.addi v10 c0_i32_1455
  let v2264 : Index := Scalar.indexCast v2245
  let c0_1463 : Index := 0#32
  let c0_1464 : Index := 0#32
  let c0_1465 : Index := 0#32
  ![v2264.toNat, 0, 0, 0]
def k0_off70 (d0 : Dev nD) (c0_i32_1455 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2245 : BitVec 32 := Scalar.addi v10 c0_i32_1455
  let v2279 : Index := Scalar.indexCast v2245
  let c0_1468 : Index := 0#32
  let c0_1469 : Index := 0#32
  let c128_1470 : Index := 128#32
  ![v2279.toNat, 0, 0, 128]
def k0_off71 (d0 : Dev nD) (c0_i32_1473 : BitVec 32) : Fin 3 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2291 : BitVec 32 := Scalar.addi v10 c0_i32_1473
  let v2292 : Index := Scalar.indexCast v2291
  let c0_1474 : Index := 0#32
  let c128_1475 : Index := 128#32
  ![v2292.toNat, 0, 128]
def k0_off72 (d0 : Dev nD) (c0_i32_1473 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2291 : BitVec 32 := Scalar.addi v10 c0_i32_1473
  let v2310 : Index := Scalar.indexCast v2291
  let c1_1481 : Index := 1#32
  let c0_1482 : Index := 0#32
  let c0_1483 : Index := 0#32
  ![v2310.toNat, 1, 0, 0]
def k0_off73 (d0 : Dev nD) (c0_i32_1473 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2291 : BitVec 32 := Scalar.addi v10 c0_i32_1473
  let v2325 : Index := Scalar.indexCast v2291
  let c1_1486 : Index := 1#32
  let c0_1487 : Index := 0#32
  let c128_1488 : Index := 128#32
  ![v2325.toNat, 1, 0, 128]
def k0_off74 (d0 : Dev nD) (c0_i32_1491 : BitVec 32) : Fin 3 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2337 : BitVec 32 := Scalar.addi v10 c0_i32_1491
  let v2338 : Index := Scalar.indexCast v2337
  let c0_1492 : Index := 0#32
  let c256_1493 : Index := 256#32
  ![v2338.toNat, 0, 256]
def k0_off75 (d0 : Dev nD) (c0_i32_1491 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2337 : BitVec 32 := Scalar.addi v10 c0_i32_1491
  let v2356 : Index := Scalar.indexCast v2337
  let c2_1499 : Index := 2#32
  let c0_1500 : Index := 0#32
  let c0_1501 : Index := 0#32
  ![v2356.toNat, 2, 0, 0]
def k0_off76 (d0 : Dev nD) (c0_i32_1491 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2337 : BitVec 32 := Scalar.addi v10 c0_i32_1491
  let v2371 : Index := Scalar.indexCast v2337
  let c2_1504 : Index := 2#32
  let c0_1505 : Index := 0#32
  let c128_1506 : Index := 128#32
  ![v2371.toNat, 2, 0, 128]
def k0_off77 (d0 : Dev nD) (c0_i32_1509 : BitVec 32) : Fin 3 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2383 : BitVec 32 := Scalar.addi v10 c0_i32_1509
  let v2384 : Index := Scalar.indexCast v2383
  let c0_1510 : Index := 0#32
  let c384_1511 : Index := 384#32
  ![v2384.toNat, 0, 384]
def k0_off78 (d0 : Dev nD) (c0_i32_1509 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2383 : BitVec 32 := Scalar.addi v10 c0_i32_1509
  let v2402 : Index := Scalar.indexCast v2383
  let c3_1517 : Index := 3#32
  let c0_1518 : Index := 0#32
  let c0_1519 : Index := 0#32
  ![v2402.toNat, 3, 0, 0]
def k0_off79 (d0 : Dev nD) (c0_i32_1509 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2383 : BitVec 32 := Scalar.addi v10 c0_i32_1509
  let v2417 : Index := Scalar.indexCast v2383
  let c3_1522 : Index := 3#32
  let c0_1523 : Index := 0#32
  let c128_1524 : Index := 128#32
  ![v2417.toNat, 3, 0, 128]
def k0_off80 (d0 : Dev nD) (c0_i32_1527 : BitVec 32) : Fin 3 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2429 : BitVec 32 := Scalar.addi v10 c0_i32_1527
  let v2430 : Index := Scalar.indexCast v2429
  let c0_1528 : Index := 0#32
  let c512_1529 : Index := 512#32
  ![v2430.toNat, 0, 512]
def k0_off81 (d0 : Dev nD) (c0_i32_1527 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2429 : BitVec 32 := Scalar.addi v10 c0_i32_1527
  let v2448 : Index := Scalar.indexCast v2429
  let c4_1535 : Index := 4#32
  let c0_1536 : Index := 0#32
  let c0_1537 : Index := 0#32
  ![v2448.toNat, 4, 0, 0]
def k0_off82 (d0 : Dev nD) (c0_i32_1527 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2429 : BitVec 32 := Scalar.addi v10 c0_i32_1527
  let v2463 : Index := Scalar.indexCast v2429
  let c4_1540 : Index := 4#32
  let c0_1541 : Index := 0#32
  let c128_1542 : Index := 128#32
  ![v2463.toNat, 4, 0, 128]
def k0_off83 (d0 : Dev nD) (c0_i32_1545 : BitVec 32) : Fin 3 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2475 : BitVec 32 := Scalar.addi v10 c0_i32_1545
  let v2476 : Index := Scalar.indexCast v2475
  let c0_1546 : Index := 0#32
  let c640_1547 : Index := 640#32
  ![v2476.toNat, 0, 640]
def k0_off84 (d0 : Dev nD) (c0_i32_1545 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2475 : BitVec 32 := Scalar.addi v10 c0_i32_1545
  let v2494 : Index := Scalar.indexCast v2475
  let c5_1553 : Index := 5#32
  let c0_1554 : Index := 0#32
  let c0_1555 : Index := 0#32
  ![v2494.toNat, 5, 0, 0]
def k0_off85 (d0 : Dev nD) (c0_i32_1545 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2475 : BitVec 32 := Scalar.addi v10 c0_i32_1545
  let v2509 : Index := Scalar.indexCast v2475
  let c5_1558 : Index := 5#32
  let c0_1559 : Index := 0#32
  let c128_1560 : Index := 128#32
  ![v2509.toNat, 5, 0, 128]
def k0_off86 (d0 : Dev nD) (c0_i32_1563 : BitVec 32) : Fin 3 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2521 : BitVec 32 := Scalar.addi v10 c0_i32_1563
  let v2522 : Index := Scalar.indexCast v2521
  let c0_1564 : Index := 0#32
  let c768_1565 : Index := 768#32
  ![v2522.toNat, 0, 768]
def k0_off87 (d0 : Dev nD) (c0_i32_1563 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2521 : BitVec 32 := Scalar.addi v10 c0_i32_1563
  let v2540 : Index := Scalar.indexCast v2521
  let c6_1571 : Index := 6#32
  let c0_1572 : Index := 0#32
  let c0_1573 : Index := 0#32
  ![v2540.toNat, 6, 0, 0]
def k0_off88 (d0 : Dev nD) (c0_i32_1563 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2521 : BitVec 32 := Scalar.addi v10 c0_i32_1563
  let v2555 : Index := Scalar.indexCast v2521
  let c6_1576 : Index := 6#32
  let c0_1577 : Index := 0#32
  let c128_1578 : Index := 128#32
  ![v2555.toNat, 6, 0, 128]
def k0_off89 (d0 : Dev nD) (c0_i32_1581 : BitVec 32) : Fin 3 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2567 : BitVec 32 := Scalar.addi v10 c0_i32_1581
  let v2568 : Index := Scalar.indexCast v2567
  let c0_1582 : Index := 0#32
  let c896_1583 : Index := 896#32
  ![v2568.toNat, 0, 896]
def k0_off90 (d0 : Dev nD) (c0_i32_1581 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2567 : BitVec 32 := Scalar.addi v10 c0_i32_1581
  let v2586 : Index := Scalar.indexCast v2567
  let c7_1589 : Index := 7#32
  let c0_1590 : Index := 0#32
  let c0_1591 : Index := 0#32
  ![v2586.toNat, 7, 0, 0]
def k0_off91 (d0 : Dev nD) (c0_i32_1581 : BitVec 32) : Fin 4 → Nat :=
  let c2_i32_6 : BitVec 32 := 2#32
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let v10 : BitVec 32 := Scalar.muli c2_i32_6 v9
  let v2567 : BitVec 32 := Scalar.addi v10 c0_i32_1581
  let v2601 : Index := Scalar.indexCast v2567
  let c7_1594 : Index := 7#32
  let c0_1595 : Index := 0#32
  let c128_1596 : Index := 128#32
  ![v2601.toNat, 7, 0, 128]
abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "qk_scale" => some (((8 * (Real.log 2))⁻¹ : ℝ) : EReal)
  | _ => none
-- ==== ReferenceIdeal.lean ====
abbrev S4x512x16x64 : Shape := ⟨4, ![4, 512, 16, 64]⟩
abbrev S4x16x512x512 : Shape := ⟨4, ![4, 16, 512, 512]⟩
abbrev S_ : Shape := ⟨0, ![]⟩
abbrev S4x16x512 : Shape := ⟨3, ![4, 16, 512]⟩
abbrev S4x16x512x1 : Shape := ⟨4, ![4, 16, 512, 1]⟩
abbrev S4x16x64x512 : Shape := ⟨4, ![4, 16, 64, 512]⟩

abbrev nBuf : Space → Nat
  | .hbm => 20
  | .vmem => 0
  | .smem => 0
  | _ => 0

abbrev bufTy : (tb : Table) → Fin (tcTables nBuf tb) → BufTy
  | .hbm, ⟨0, _⟩ => ⟨S4x512x16x64, .f32⟩
  | .hbm, ⟨1, _⟩ => ⟨S4x512x16x64, .f32⟩
  | .hbm, ⟨2, _⟩ => ⟨S4x512x16x64, .f32⟩
  | .hbm, ⟨3, _⟩ => ⟨S4x16x512x512, .f32⟩
  | .hbm, ⟨4, _⟩ => ⟨S_, .f32⟩
  | .hbm, ⟨5, _⟩ => ⟨S4x16x512x512, .f32⟩
  | .hbm, ⟨6, _⟩ => ⟨S4x16x512x512, .f32⟩
  | .hbm, ⟨7, _⟩ => ⟨S_, .f32⟩
  | .hbm, ⟨8, _⟩ => ⟨S4x16x512, .f32⟩
  | .hbm, ⟨9, _⟩ => ⟨S4x16x512x1, .f32⟩
  | .hbm, ⟨10, _⟩ => ⟨S4x16x512x512, .f32⟩
  | .hbm, ⟨11, _⟩ => ⟨S4x16x512x512, .f32⟩
  | .hbm, ⟨12, _⟩ => ⟨S4x16x512x512, .f32⟩
  | .hbm, ⟨13, _⟩ => ⟨S_, .f32⟩
  | .hbm, ⟨14, _⟩ => ⟨S4x16x512, .f32⟩
  | .hbm, ⟨15, _⟩ => ⟨S4x16x512x1, .f32⟩
  | .hbm, ⟨16, _⟩ => ⟨S4x16x512x512, .f32⟩
  | .hbm, ⟨17, _⟩ => ⟨S4x16x512x512, .f32⟩
  | .hbm, ⟨18, _⟩ => ⟨S4x16x64x512, .f32⟩
  | .hbm, ⟨19, _⟩ => ⟨S4x512x16x64, .f32⟩
  | _, _ => ⟨S4x512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Body.lean ====
/-
The kernel's body written as nested loops of a few named steps.

The printed body is a flat text of some five thousand operations.  Here the same operations
are spelt as loops over chunks and over blocks, each step one named combinator taking the rest
of the program.  `body_eq` says the two are the same program.
-/
module

public import proofs.«01_k».proof.Proof.Gen.KernelIdeal.Skeleton
public import proofs.«01_k».proof.Proof.Gen.KernelIdeal.Points
public import Idealize.ShloMosaic.Lib.Pipeline.Regions

@[expose] public section

set_option synthInstance.maxSize 4096

noncomputable section

namespace Cert.KernelIdeal.Attn

open Idealize.ShloMosaic Idealize.ShloMosaic.TcCoe Idealize.SL.Sem
open Cert.KernelIdeal Cert.KernelIdeal.Gen

variable {F : FTy → Type} [FloatOps F] [Named F]

/-! ## The arithmetic of one block -/

/-- A block of ones: beside the values it makes the product carry the row sums. -/
def ones : FVec F S256x64 .bf16 := broadcast S256x64 (Scalar.ofBits .bf16 0x3F80#16)

/-- The queries of two heads, times the scale. -/
def scaled (q : Vec F S1x256x128 .bf16) : FVec F S256x128 .bf16 :=
  truncf .bf16 (mulf (extf .f32 (shapeCast S256x128 q shapeCasts_S1x256x128_S256x128) bitsLt_bf16_f32)
    (broadcast S256x128 (Named.named κ "qk_scale" 0x3E38AA3B#32))) bitsLt_bf16_f32

/-- One head of queries against one block of keys and values: columns 0–63 hold the weighted sum
    of the values, columns 64–127 the sum of the weights. -/
def part (q k v : FVec F S256x64 .bf16) : FVec F S256x128 .f32 :=
  matmul dot_S256x256_S256x128_S256x128_1_0_0_1_n_n none
    (truncf .bf16
      (exp2 (matmul dot_S256x64_S256x64_S256x256_1_1_0_0_n_n none q k (constant S256x256 .f32 0x00000000#32)))
      bitsLt_bf16_f32)
    (concatenate S256x128 1 [⟨S256x64, v⟩, ⟨S256x64, ones⟩] concatenates_S256x64_S256x64_S256x128_d1)
    (constant S256x128 .f32 0x00000000#32)

/-- Columns 0–63 of a pair of heads. -/
def lo (x : FVec F S256x128 .bf16) : FVec F S256x64 .bf16 :=
  extractStridedSlice S256x64 ![0, 0] x slices_S256x128_o0_0_S256x64

/-- Columns 64–127 of a pair of heads. -/
def hi (x : FVec F S256x128 .bf16) : FVec F S256x64 .bf16 :=
  extractStridedSlice S256x64 ![0, 64] x slices_S256x128_o0_64_S256x64

/-- A loaded pair of heads as a matrix. -/
def mat (x : Vec F S1x256x128 .bf16) : FVec F S256x128 .bf16 :=
  shapeCast S256x128 x shapeCasts_S1x256x128_S256x128

/-- What a pair of heads contributes from the device's own keys and values. -/
def locBlk (q k v : Vec F S1x256x128 .bf16) : FVec F S1x1x256x256 .f32 :=
  shapeCast S1x1x256x256
    (concatenate S256x256 1
      [⟨S256x128, part (lo (scaled q)) (lo (mat k)) (lo (mat v))⟩,
       ⟨S256x128, part (hi (scaled q)) (hi (mat k)) (hi (mat v))⟩]
      concatenates_S256x128_S256x128_S256x256_d1)
    shapeCasts_S256x256_S1x1x256x256

/-- A stored half of an accumulator block, plus the other part, its sums divided by its weights. -/
def quo (a : Vec F S1x1x256x128 .f32) (p : FVec F S256x128 .f32) : FVec F S256x64 .f32 :=
  divf
    (extractStridedSlice S256x64 ![0, 0] (addf (shapeCast S256x128 a shapeCasts_S1x1x256x128_S256x128) p)
      slices_S256x128_o0_0_S256x64)
    (extractStridedSlice S256x64 ![0, 64] (addf (shapeCast S256x128 a shapeCasts_S1x1x256x128_S256x128) p)
      slices_S256x128_o0_64_S256x64)

/-- Sixty-four columns, from `o`, of a batch of received keys and values. -/
def rcol (o : Nat) (h : S256x2048.Slices ![0, o] S256x64) (x : Vec F S1x256x2048 .bf16) : FVec F S256x64 .bf16 :=
  extractStridedSlice S256x64 ![0, o] (shapeCast S256x2048 x shapeCasts_S1x256x2048_S256x2048) h

theorem rcol_k0 : ∀ h : Fin 8, S256x2048.Slices ![0, 128 * h.val] S256x64 := by decide +kernel
theorem rcol_k1 : ∀ h : Fin 8, S256x2048.Slices ![0, 128 * h.val + 64] S256x64 := by decide +kernel
theorem rcol_v0 : ∀ h : Fin 8, S256x2048.Slices ![0, 1024 + 128 * h.val] S256x64 := by decide +kernel
theorem rcol_v1 : ∀ h : Fin 8, S256x2048.Slices ![0, 1024 + 128 * h.val + 64] S256x64 := by decide +kernel

/-- The finished output of head pair `h`: the accumulated halves plus the contribution of the
    received keys and values, divided through. -/
def remBlk (h : Fin 8) (q : Vec F S1x256x128 .bf16) (x : Vec F S1x256x2048 .bf16)
    (a0 a1 : Vec F S1x1x256x128 .f32) : FVec F S1x256x128 .f32 :=
  shapeCast S1x256x128
    (concatenate S256x128 1
      [⟨S256x64, quo a0 (part (lo (scaled q)) (rcol _ (rcol_k0 h) x) (rcol _ (rcol_v0 h) x))⟩,
       ⟨S256x64, quo a1 (part (hi (scaled q)) (rcol _ (rcol_k1 h) x) (rcol _ (rcol_v1 h) x))⟩]
      concatenates_S256x64_S256x64_S256x128_d1)
    shapeCasts_S256x128_S1x256x128

/-! ## Devices, batches and rectangles -/

/-- The neighbour along the sequence axis: it holds the other half of the keys and values. -/
def yn (d : Dev nD) : Dev nD := ⟨k0_dev1 d, k0_dev1_lt d⟩

/-- The neighbour along the other axis: a replica. -/
def xn (d : Dev nD) : Dev nD := ⟨k0_dev2 d, k0_dev2_lt d⟩

/-- The row of a device in the mesh, as the kernel computes it. -/
def rowW (d : Dev nD) : BitVec 32 := Scalar.remsi (Scalar.divsi (Dev.word d) 2#32) 2#32

/-- The first batch of the device's own half. -/
def mbW (d : Dev nD) : BitVec 32 := Scalar.muli 2#32 (rowW d)

/-- The first batch of the other half. -/
def obW (d : Dev nD) : BitVec 32 := Scalar.muli 2#32 (Scalar.subi 1#32 (rowW d))

/-- The batch finished `j`-th, as the kernel computes it: the device's own half first. -/
def batW (d : Dev nD) : Fin 4 → BitVec 32
  | 0 => mbW d
  | 1 => Scalar.addi (mbW d) 1#32
  | 2 => Scalar.addi (obW d) 0#32
  | 3 => Scalar.addi (obW d) 1#32

/-- The same batch as a number. -/
def bat (d : Dev nD) (j : Fin 4) : Nat := (2 * (d.val / 2) + j.val) % 4

theorem batW_eq : ∀ (d : Dev nD) (j : Fin 4), (Scalar.indexCast (batW d j) : BitVec 32).toNat = bat d j := by decide +kernel

/-- The batch of chunk `i` of the own half. -/
def chW (d : Dev nD) (i : Fin 8) : BitVec 32 := Scalar.addi (mbW d) (BitVec.ofNat 32 (i.val / 4))

theorem chW_eq : ∀ (d : Dev nD) (i : Fin 8), (chW d i).toNat = 2 * (d.val / 2) + i.val / 4 := by decide +kernel

theorem kvR_inb : ∀ (d : Dev nD) (i : Fin 8), ∀ a,
    (![(chW d i).toNat, 64 * (i.val % 4), 0] : Fin 3 → Nat) a + S1x64x1024.size a ≤ S4x256x1024.size a := by
  decide +kernel
theorem rkR_inb : ∀ (d : Dev nD) (i : Fin 8), ∀ a,
    (![(chW d i).toNat, 64 * (i.val % 4), 0] : Fin 3 → Nat) a + S1x64x1024.size a ≤ S4x256x2048.size a := by
  decide +kernel
theorem rvR_inb : ∀ (d : Dev nD) (i : Fin 8), ∀ a,
    (![(chW d i).toNat, 64 * (i.val % 4), 1024] : Fin 3 → Nat) a + S1x64x1024.size a ≤ S4x256x2048.size a := by
  decide +kernel
theorem rxR_inb : ∀ (d : Dev nD) (i : Fin 8), ∀ a,
    (![(chW d i).toNat, 64 * (i.val % 4), 0] : Fin 3 → Nat) a + S1x64x2048.size a ≤ S4x256x2048.size a := by
  decide +kernel

/-- Chunk `i` of the own half, in the keys or the values. -/
def kvR (d : Dev nD) (i : Fin 8) : Rect S4x256x1024 :=
  Rect.unit (s := S4x256x1024) ![(chW d i).toNat, 64 * (i.val % 4), 0] S1x64x1024.size (kvR_inb d i)
/-- Chunk `i` in the received keys. -/
def rkR (d : Dev nD) (i : Fin 8) : Rect S4x256x2048 :=
  Rect.unit (s := S4x256x2048) ![(chW d i).toNat, 64 * (i.val % 4), 0] S1x64x1024.size (rkR_inb d i)
/-- Chunk `i` in the received values. -/
def rvR (d : Dev nD) (i : Fin 8) : Rect S4x256x2048 :=
  Rect.unit (s := S4x256x2048) ![(chW d i).toNat, 64 * (i.val % 4), 1024] S1x64x1024.size (rvR_inb d i)
/-- Chunk `i` of received keys and values together. -/
def rxR (d : Dev nD) (i : Fin 8) : Rect S4x256x2048 :=
  Rect.unit (s := S4x256x2048) ![(chW d i).toNat, 64 * (i.val % 4), 0] S1x64x2048.size (rxR_inb d i)

theorem kvR_one (d : Dev nD) (i : Fin 8) : ∀ a, (kvR d i).stride a = 1 := fun _ => rfl
theorem kvR_words : ∀ (d : Dev nD) (i : Fin 8), (kvR d i).WholeWords (EltTy.packing .bf16) := by decide +kernel
theorem rkR_one (d : Dev nD) (i : Fin 8) : ∀ a, (rkR d i).stride a = 1 := fun _ => rfl
theorem rkR_words : ∀ (d : Dev nD) (i : Fin 8), (rkR d i).WholeWords (EltTy.packing .bf16) := by decide +kernel
theorem rvR_one (d : Dev nD) (i : Fin 8) : ∀ a, (rvR d i).stride a = 1 := fun _ => rfl
theorem rvR_words : ∀ (d : Dev nD) (i : Fin 8), (rvR d i).WholeWords (EltTy.packing .bf16) := by decide +kernel
theorem rxR_one (d : Dev nD) (i : Fin 8) : ∀ a, (rxR d i).stride a = 1 := fun _ => rfl
theorem rxR_words : ∀ (d : Dev nD) (i : Fin 8), (rxR d i).WholeWords (EltTy.packing .bf16) := by decide +kernel

theorem hdR_inb : ∀ n : Fin 32, ∀ a,
    (![n.val / 8, 0, 128 * (n.val % 8)] : Fin 3 → Nat) a + S1x256x128.size a ≤ S4x256x1024.size a := by decide +kernel
theorem acR_inb : ∀ n : Fin 32, ∀ a,
    (![n.val / 8, n.val % 8, 0, 0] : Fin 4 → Nat) a + S1x1x256x256.size a ≤ S4x8x256x256.size a := by decide +kernel

/-- Block `n` of the queries, keys or values: head pair `n % 8` of batch `n / 8`. -/
def hdR (n : Fin 32) : Rect S4x256x1024 :=
  Rect.unit (s := S4x256x1024) ![n.val / 8, 0, 128 * (n.val % 8)] S1x256x128.size (hdR_inb n)
/-- Block `n` of the accumulator. -/
def acR (n : Fin 32) : Rect S4x8x256x256 :=
  Rect.unit (s := S4x8x256x256) ![n.val / 8, n.val % 8, 0, 0] S1x1x256x256.size (acR_inb n)

/-- The batch finished in step `n`. -/
def stW (d : Dev nD) (j : Fin 4) : Nat := (Scalar.indexCast (batW d j) : BitVec 32).toNat

theorem ouR_inb : ∀ (d : Dev nD) (j : Fin 4) (h : Fin 8), ∀ a,
    (![stW d j, 0, 128 * h.val] : Fin 3 → Nat) a + S1x256x128.size a ≤ S4x256x1024.size a := by
  decide +kernel
theorem rbR_inb : ∀ (d : Dev nD) (j : Fin 4), ∀ a,
    (![stW d j, 0, 0] : Fin 3 → Nat) a + S1x256x2048.size a ≤ S4x256x2048.size a := by
  decide +kernel
theorem a0R_inb : ∀ (d : Dev nD) (j : Fin 4) (h : Fin 8), ∀ a,
    (![stW d j, h.val, 0, 0] : Fin 4 → Nat) a + S1x1x256x128.size a ≤ S4x8x256x256.size a := by
  decide +kernel
theorem a1R_inb : ∀ (d : Dev nD) (j : Fin 4) (h : Fin 8), ∀ a,
    (![stW d j, h.val, 0, 128] : Fin 4 → Nat) a + S1x1x256x128.size a ≤ S4x8x256x256.size a := by
  decide +kernel

/-- Head pair `h` of the batch finished `j`-th, in the queries or in the output. -/
def ouR (d : Dev nD) (j : Fin 4) (h : Fin 8) : Rect S4x256x1024 :=
  Rect.unit (s := S4x256x1024) ![stW d j, 0, 128 * h.val] S1x256x128.size (ouR_inb d j h)
/-- That batch of the received keys and values. -/
def rbR (d : Dev nD) (j : Fin 4) : Rect S4x256x2048 :=
  Rect.unit (s := S4x256x2048) ![stW d j, 0, 0] S1x256x2048.size (rbR_inb d j)
/-- The two halves of its accumulator block. -/
def a0R (d : Dev nD) (j : Fin 4) (h : Fin 8) : Rect S4x8x256x256 :=
  Rect.unit (s := S4x8x256x256) ![stW d j, h.val, 0, 0] S1x1x256x128.size (a0R_inb d j h)
def a1R (d : Dev nD) (j : Fin 4) (h : Fin 8) : Rect S4x8x256x256 :=
  Rect.unit (s := S4x8x256x256) ![stW d j, h.val, 0, 128] S1x1x256x128.size (a1R_inb d j h)

/-! ## Buffers and semaphores -/

/-- Queries, keys, values and output as staged, and the two scratch buffers. -/
abbrev mQ : Memref sig .tc .vmem S4x256x1024 .bf16 := stage0_0 0
abbrev mK : Memref sig .tc .vmem S4x256x1024 .bf16 := stage0_1 0
abbrev mV : Memref sig .tc .vmem S4x256x1024 .bf16 := stage0_2 0
abbrev mO : Memref sig .tc .vmem S4x256x1024 .f32 := stage0_3 0
abbrev mR : Memref sig .tc .vmem S4x256x2048 .bf16 := Memref.whole cc0_scratch0
abbrev mA : Memref sig .tc .vmem S4x8x256x256 .f32 := Memref.whole cc0_scratch1

theorem hR : (mR).IsWhole := Memref.isWhole_whole _

/-- The barrier semaphore. -/
abbrev barS : Idealize.ShloMosaic.Sem sig := (SemArray.scalar (sig.barrier 0 rfl) : Sems sig S_).sem

/-- Semaphore `i` of the `k`-th scratch array: keys sent and received, values sent and received,
    forwarded chunks sent and received. -/
def ds (k : Fin 6) (i : Fin 8) : DmaSem sig := (⟨4 + 8 * k.val + i.val, by have := k.isLt; have := i.isLt; show _ < 52; omega⟩ : Fin 52)

/-! ## The steps -/

/-- A program of this device. -/
abbrev P (F : FTy → Type) [FloatOps F] [Named F] : Type 1 := Prog (TpuEff nD τ sig (Elt F) Λ₀ .tc) PUnit

/-- Send chunk `i` of the keys to the neighbour. -/
def sendK (d : Dev nD) (i : Fin 8) (K : P F) : P F :=
  Prog.op (.enqueueDma (mK.slice (kvR d i) (kvR_one d i))
    (.remote (Dev.tc (yn d)) (mR.slice (rkR d i) (rkR_one d i)) (.dma (ds 0 i))) (.dma (ds 1 i))
    ((hstage0_1 0).wordExact_slice rfl _ (kvR_words d i)) (hR.wordExact_slice rfl _ (rkR_words d i))
    ⟨⟨rfl, Or.inl rfl⟩, trivial⟩) fun _ => K

/-- Send chunk `i` of the values to the neighbour. -/
def sendV (d : Dev nD) (i : Fin 8) (K : P F) : P F :=
  Prog.op (.enqueueDma (mV.slice (kvR d i) (kvR_one d i))
    (.remote (Dev.tc (yn d)) (mR.slice (rvR d i) (rvR_one d i)) (.dma (ds 2 i))) (.dma (ds 3 i))
    ((hstage0_2 0).wordExact_slice rfl _ (kvR_words d i)) (hR.wordExact_slice rfl _ (rvR_words d i))
    ⟨⟨rfl, Or.inl rfl⟩, trivial⟩) fun _ => K

/-- Forward chunk `i` as received to the replica. -/
def sendX (d : Dev nD) (i : Fin 8) (K : P F) : P F :=
  Prog.op (.enqueueDma (mR.slice (rxR d i) (rxR_one d i))
    (.remote (Dev.tc (xn d)) (mR.slice (rxR d i) (rxR_one d i)) (.dma (ds 4 i))) (.dma (ds 5 i))
    (hR.wordExact_slice rfl _ (rxR_words d i)) (hR.wordExact_slice rfl _ (rxR_words d i))
    ⟨⟨rfl, Or.inl rfl⟩, trivial⟩) fun _ => K

/-- Wait for chunk `i` of the neighbour's keys, then of its values. -/
def recvK (d : Dev nD) (i : Fin 8) (K : P F) : P F :=
  Prog.op (.waitDma2 (ds 1 i) (mK.slice (kvR d i) (kvR_one d i)) (mR.slice (rkR d i) (rkR_one d i))
    ((hstage0_1 0).wordExact_slice rfl _ (kvR_words d i)) (hR.wordExact_slice rfl _ (rkR_words d i))) fun _ => K
def recvV (d : Dev nD) (i : Fin 8) (K : P F) : P F :=
  Prog.op (.waitDma2 (ds 3 i) (mV.slice (kvR d i) (kvR_one d i)) (mR.slice (rvR d i) (rvR_one d i))
    ((hstage0_2 0).wordExact_slice rfl _ (kvR_words d i)) (hR.wordExact_slice rfl _ (rvR_words d i))) fun _ => K

/-- Wait until the own chunk `i` of keys, then of values, has gone out. -/
def sentK (d : Dev nD) (i : Fin 8) (K : P F) : P F :=
  Prog.op (.waitDma2 (ds 0 i) (mR.slice (rkR d i) (rkR_one d i)) (mK.slice (kvR d i) (kvR_one d i))
    (hR.wordExact_slice rfl _ (rkR_words d i)) ((hstage0_1 0).wordExact_slice rfl _ (kvR_words d i))) fun _ => K
def sentV (d : Dev nD) (i : Fin 8) (K : P F) : P F :=
  Prog.op (.waitDma2 (ds 2 i) (mR.slice (rvR d i) (rvR_one d i)) (mV.slice (kvR d i) (kvR_one d i))
    (hR.wordExact_slice rfl _ (rvR_words d i)) ((hstage0_2 0).wordExact_slice rfl _ (kvR_words d i))) fun _ => K

/-- Wait until the forwarded chunk `i` has gone out, and until the replica's has come in. -/
def waitX (k : Fin 6) (d : Dev nD) (i : Fin 8) (K : P F) : P F :=
  Prog.op (.waitDma2 (ds k i) (mR.slice (rxR d i) (rxR_one d i)) (mR.slice (rxR d i) (rxR_one d i))
    (hR.wordExact_slice rfl _ (rxR_words d i)) (hR.wordExact_slice rfl _ (rxR_words d i))) fun _ => K

/-- Block `n` of the device's own part. -/
def locB (n : Fin 32) (K : P F) : P F :=
  Prog.op (.load mQ (hdR n).toLoadRect (View.loadsAt_vmem h_S1x256x128)) fun (q : Vec F S1x256x128 .bf16) =>
  Prog.op (.load mK (hdR n).toLoadRect (View.loadsAt_vmem h_S1x256x128)) fun (k : Vec F S1x256x128 .bf16) =>
  Prog.op (.load mV (hdR n).toLoadRect (View.loadsAt_vmem h_S1x256x128)) fun (v : Vec F S1x256x128 .bf16) =>
  Prog.op (.load mA (acR n).toLoadRect (View.loadsAt_vmem h_S1x1x256x256)) fun (_ : Vec F S1x1x256x256 .f32) =>
  Prog.op (.store mA (acR n) (locBlk q k v) Finset.univ (View.stores_vmem_bits_univ h_S1x1x256x256 rfl) (.inl rfl)) fun _ => K

/-- Head pair `h` of the batch finished `j`-th. -/
def remB (d : Dev nD) (j : Fin 4) (h : Fin 8) (K : P F) : P F :=
  Prog.op (.load mQ (ouR d j h).toLoadRect (View.loadsAt_vmem h_S1x256x128)) fun (q : Vec F S1x256x128 .bf16) =>
  Prog.op (.load mR (rbR d j).toLoadRect (View.loadsAt_vmem h_S1x256x2048)) fun (x : Vec F S1x256x2048 .bf16) =>
  Prog.op (.load mA (a0R d j h).toLoadRect (View.loadsAt_vmem h_S1x1x256x128)) fun (a0 : Vec F S1x1x256x128 .f32) =>
  Prog.op (.load mA (a1R d j h).toLoadRect (View.loadsAt_vmem h_S1x1x256x128)) fun (a1 : Vec F S1x1x256x128 .f32) =>
  Prog.op (.load mO (ouR d j h).toLoadRect (View.loadsAt_vmem h_S1x256x128)) fun (_ : Vec F S1x256x128 .f32) =>
  Prog.op (.store mO (ouR d j h) (remBlk h q x a0 a1) Finset.univ (View.stores_vmem_bits_univ h_S1x256x128 rfl) (.inl rfl)) fun _ => K

/-- `f 0`, then `f 1`, … then `K`. -/
abbrev rep (n : Nat) (f : Fin n → P F → P F) (K : P F) : P F := Fin.foldr n f K

/-- The barrier: tell both neighbours, hear from both. -/
def barrier (d : Dev nD) (K : P F) : P F :=
  Prog.op (.semSignal (yn d, .tc) barS (1#32).toInt) fun _ =>
  Prog.op (.semSignal (xn d, .tc) barS (1#32).toInt) fun _ =>
  Prog.op (.semWait barS (2#32).toInt) fun _ => K

/-- Receive chunk `i` and forward it. -/
def relay (d : Dev nD) (i : Fin 8) (K : P F) : P F := recvK d i (recvV d i (sendX d i K))

/-- The four blocks of the own part that go with chunk `i`. -/
def own4 (i : Fin 8) (K : P F) : P F :=
  rep 4 (fun j => locB ⟨4 * i.val + j.val, by omega⟩) K

/-- The body after the device has been read. -/
def bodyS (d : Dev nD) : P F :=
  barrier d <|
  rep 8 (fun i K => sendK d i (sendV d i K)) <|
  rep 4 (fun c K => own4 ⟨c.val, by omega⟩ (relay d ⟨c.val, by omega⟩ K)) <|
  rep 4 (fun c K => own4 ⟨4 + c.val, by omega⟩
    (remB d 0 ⟨2 * c.val, by omega⟩ (remB d 0 ⟨2 * c.val + 1, by omega⟩ (relay d ⟨4 + c.val, by omega⟩ K)))) <|
  rep 8 (fun h => remB d 1 h) <|
  rep 8 (fun i K => sentK d i (sentV d i K)) <|
  rep 8 (fun i K => waitX 4 d i (waitX 5 d i K)) <|
  rep 8 (fun h => remB d 2 h) <|
  rep 8 (fun h => remB d 3 h) <|
  Prog.ret ⟨⟩

set_option maxRecDepth 65536 in
/-- The printed body is the structured one. -/
theorem body_eq (t : Fin cfg0.N) :
    (bodyAt0 (F := F) t) = Prog.op .deviceId fun d => bodyS d := by
  chain_rfl

end Cert.KernelIdeal.Attn
-- ==== Proof.Protocol.lean ====
module

public import proofs.«01_k».proof.Proof.Body
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic

/-!
# The protocol between the four devices

Which part of which buffer each semaphore unit hands over, what every device owes from the start, and the
order of the waits.
-/

@[expose] public section

open Idealize.ShloMosaic Idealize.ShloMosaic.TcCoe
open Idealize.SL
open Idealize.SL.BI (sProp bigSep bigSep_sep' bigSep_singleton bigSep_insert)
open scoped Idealize.SL.BI
open Idealize.SL.BI.BIBase Idealize.SL.BI.Laws Idealize.SL.ProofMode Idealize.SL.Sem
open Idealize.SL.RA
open Idealize.ShloMosaic.Rounds
open Cert.KernelIdeal Cert.KernelIdeal.Gen

set_option synthInstance.maxSize 4096

noncomputable section

namespace Cert.KernelIdeal.Attn

variable {F : FTy → Type} [FloatOps F] [Named F]

/-- Ghost state: the pipeline's and the protocol's. -/
abbrev UP : Type := URounds (GSem nD τ sig) Bool
abbrev UU : Type := UR sig nD τ × UP

local notation "𝕄" => MT nD τ sig Unit (Elt F) ℕ UU ℕ

abbrev EP : Emb (UR sig nD τ) 𝕄 := embL
abbrev ER : Emb UP 𝕄 := embR

/-! ## Parts of the buffers -/

/-- The half of the batches a device sends to its neighbour. -/
def hf (d : Dev nD) : Nat := d.val / 2

/-- Chunk `i` of half `h` in keys or values. -/
def kvS (h : Nat) (i : Fin 8) : Finset S4x256x1024.Idx :=
  Finset.univ.filter fun x => (x 0).val = 2 * h + i.val / 4 ∧ (x 1).val / 64 = i.val % 4
/-- The same chunk among the received keys, the received values, and both. -/
def ckS (h : Nat) (i : Fin 8) : Finset S4x256x2048.Idx :=
  Finset.univ.filter fun x => (x 0).val = 2 * h + i.val / 4 ∧ (x 1).val / 64 = i.val % 4 ∧ (x 2).val < 1024
def cvS (h : Nat) (i : Fin 8) : Finset S4x256x2048.Idx :=
  Finset.univ.filter fun x => (x 0).val = 2 * h + i.val / 4 ∧ (x 1).val / 64 = i.val % 4 ∧ 1024 ≤ (x 2).val
def cxS (h : Nat) (i : Fin 8) : Finset S4x256x2048.Idx :=
  Finset.univ.filter fun x => (x 0).val = 2 * h + i.val / 4 ∧ (x 1).val / 64 = i.val % 4

theorem chW_two (d : Dev nD) (i : Fin 8) : (chW d i).toNat = 2 * hf d + i.val / 4 := chW_eq d i

theorem kvR_set (d : Dev nD) (i : Fin 8) : (kvR d i).set = kvS (hf d) i := by
  ext x
  have := chW_two d i
  have h2 : (x 2).val < 1024 := (x 2).isLt
  simp only [kvR, Rect.mem_set_unit, kvS, Finset.mem_filter, Finset.mem_univ, true_and, Fin.forall_fin_succ]
  simp
  omega

theorem rkR_set (d : Dev nD) (i : Fin 8) : (rkR d i).set = ckS (hf d) i := by
  ext x
  have := chW_two d i
  simp only [rkR, Rect.mem_set_unit, ckS, Finset.mem_filter, Finset.mem_univ, true_and, Fin.forall_fin_succ]
  simp
  omega

theorem rvR_set (d : Dev nD) (i : Fin 8) : (rvR d i).set = cvS (hf d) i := by
  ext x
  have := chW_two d i
  have h2 : (x 2).val < 2048 := (x 2).isLt
  simp only [rvR, Rect.mem_set_unit, cvS, Finset.mem_filter, Finset.mem_univ, true_and, Fin.forall_fin_succ]
  simp
  omega

theorem rxR_set (d : Dev nD) (i : Fin 8) : (rxR d i).set = cxS (hf d) i := by
  ext x
  have := chW_two d i
  have h2 : (x 2).val < 2048 := (x 2).isLt
  simp only [rxR, Rect.mem_set_unit, cxS, Finset.mem_filter, Finset.mem_univ, true_and, Fin.forall_fin_succ]
  simp
  omega

theorem yn_hf : ∀ d : Dev nD, hf (yn d) = hf d := by decide +kernel
theorem xn_hf : ∀ d : Dev nD, hf (xn d) = 1 - hf d := by decide +kernel
theorem yn_yn : ∀ d : Dev nD, yn (yn d) = d := by decide +kernel
theorem xn_xn : ∀ d : Dev nD, xn (xn d) = d := by decide +kernel
theorem yn_xn : ∀ d : Dev nD, yn (xn d) = xn (yn d) := by decide +kernel
theorem hf_lt : ∀ d : Dev nD, hf d < 2 := by decide +kernel

/-! ## Contents -/

section Contents
variable (Q K V : Dev nD → S4x256x1024.Idx → Elt F .bf16)

/-- The index of keys or values with the batch and row of `x` and column `c`. -/
def kvI (x : S4x256x2048.Idx) (c : Nat) (h : c < 1024) : S4x256x1024.Idx := fun a =>
  ⟨(![(x 0).val, (x 1).val, c] : Fin 3 → Nat) a, by
    have h0 : (x 0).val < 4 := (x 0).isLt
    have h1 : (x 1).val < 256 := (x 1).isLt
    fin_cases a
    · exact h0
    · exact h1
    · exact h⟩

/-- What a device has received in the end: the batches of its half from its neighbour, the others from its
    replica's neighbour; keys on the left, values on the right. -/
def rkvF (d : Dev nD) (x : S4x256x2048.Idx) : Elt F .bf16 :=
  let s := if (x 0).val / 2 = hf d then yn d else yn (xn d)
  if h : (x 2).val < 1024 then K s (kvI x (x 2).val h)
  else V s (kvI x ((x 2).val - 1024) (by have : (x 2).val < 2048 := (x 2).isLt; omega))

theorem rkvF_xn (d : Dev nD) (i : Fin 8) : ∀ x ∈ cxS (hf d) i, rkvF K V d x = rkvF K V (xn d) x := by
  intro x hx
  have h1 := xn_hf d
  have h2 := hf_lt d
  simp only [cxS, Finset.mem_filter, Finset.mem_univ, true_and] at hx
  have h3 : (x 0).val / 2 = hf d := by omega
  have h4 : ¬ hf d = 1 - hf d := by omega
  unfold rkvF
  simp only [h1, h3, h4, if_true, if_false, xn_xn]

end Contents

/-! ## Cells -/

/-- Semaphore `k`, `i` of device `d`, and its barrier. -/
abbrev cl (d : Dev nD) (k : Fin 6) (i : Fin 8) : GSem nD τ sig := ((d : Thread nD τ), .dma (ds k i))
abbrev br (d : Dev nD) : GSem nD τ sig := ((d : Thread nD τ), .reg barS)

/-- Chunk `i` in keys, in values, in the received keys, the received values, and both. -/
abbrev cK (d : Dev nD) (i : Fin 8) := mK.slice (kvR d i) (kvR_one d i)
abbrev cV (d : Dev nD) (i : Fin 8) := mV.slice (kvR d i) (kvR_one d i)
abbrev cRk (d : Dev nD) (i : Fin 8) := mR.slice (rkR d i) (rkR_one d i)
abbrev cRv (d : Dev nD) (i : Fin 8) := mR.slice (rvR d i) (rvR_one d i)
abbrev cRx (d : Dev nD) (i : Fin 8) := mR.slice (rxR d i) (rxR_one d i)

/-- Units of one chunk of keys or of values, and of both together. -/
def NK : Nat := (cRk 0 0).view.dmaCredit
def NX : Nat := (cRx 0 0).view.dmaCredit

theorem NK_pos : 0 < NK := by unfold NK; decide
theorem NX_pos : 0 < NX := by unfold NX; decide
theorem creditK (d : Dev nD) (i : Fin 8) : (cRk d i).view.dmaCredit = NK := rfl
theorem creditV (d : Dev nD) (i : Fin 8) : (cRv d i).view.dmaCredit = NK := rfl
theorem creditX (d : Dev nD) (i : Fin 8) : (cRx d i).view.dmaCredit = NX := rfl
theorem creditK' (d : Dev nD) (i : Fin 8) : (cK d i).view.dmaCredit = NK := rfl
theorem creditV' (d : Dev nD) (i : Fin 8) : (cV d i).view.dmaCredit = NK := rfl

/-! ## The schedule -/

/-- The buffers of device `d`. -/
abbrev lQ (d : Dev nD) : Loc nD τ sig := mQ.view.loc (d : Thread nD τ)
abbrev lK (d : Dev nD) : Loc nD τ sig := mK.view.loc (d : Thread nD τ)
abbrev lV (d : Dev nD) : Loc nD τ sig := mV.view.loc (d : Thread nD τ)
abbrev lO (d : Dev nD) : Loc nD τ sig := mO.view.loc (d : Thread nD τ)
abbrev lR (d : Dev nD) : Loc nD τ sig := mR.view.loc (d : Thread nD τ)
abbrev lA (d : Dev nD) : Loc nD τ sig := mA.view.loc (d : Thread nD τ)

/-- Part of the receive buffer at contents not chosen. -/
def anyR (d : Dev nD) (S : Finset S4x256x2048.Idx) : sProp 𝕄 := iprop(∃ f, lR d ↦[S]{fullShare} f)

/-- What the neighbour of `d` lends it for chunk `i`: where the chunk of keys and the chunk of values go, and
    that the two receiving cells are open. -/
def lendY (d : Dev nD) (i : Fin 8) : sProp 𝕄 :=
  iprop(anyR (yn d) (ckS (hf d) i) ∗ reached ER (cl (yn d) 1 i) 0
    ∗ anyR (yn d) (cvS (hf d) i) ∗ reached ER (cl (yn d) 3 i) 0)
/-- What the replica lends for chunk `i`. -/
def lendX (d : Dev nD) (i : Fin 8) : sProp 𝕄 :=
  iprop(anyR (xn d) (cxS (hf d) i) ∗ reached ER (cl (xn d) 5 i) 0)

section Sched
variable (K V : Dev nD → S4x256x1024.Idx → Elt F .bf16)

/-- What arrives with the units of a transfer semaphore. -/
def dmaPay (d : Dev nD) (k : Nat) (i : Fin 8) : sProp 𝕄 :=
  match k with
  | 0 => iprop(lK d ↦[kvS (hf d) i]{fullShare.right} K d)
  | 1 => iprop(lR d ↦[ckS (hf d) i]{fullShare} rkvF K V d)
  | 2 => iprop(lV d ↦[kvS (hf d) i]{fullShare.right} V d)
  | 3 => iprop(lR d ↦[cvS (hf d) i]{fullShare} rkvF K V d)
  | 4 => iprop(lR d ↦[cxS (hf d) i]{fullShare.right} rkvF K V d)
  | 5 => iprop(lR d ↦[cxS (1 - hf d) i]{fullShare} rkvF K V d)
  | _ => iprop(emp)

/-- What arrives with a unit of the barrier: `false` from the neighbour, `true` from the replica. -/
def barPay (d : Dev nD) (b : Bool) : sProp 𝕄 :=
  if b then bigSep Finset.univ (lendX d) else bigSep Finset.univ (lendY (F := F) d)

/-- One round on every cell: two duties of one unit on a barrier, one duty on a transfer cell of the kernel's own. -/
def sched : Rounds.Schedule (GSem nD τ sig) Bool 𝕄 where
  duties g r :=
    if r = 0 ∧ g.1.2 = .tc then
      match g.2 with
      | .reg _ => Finset.univ
      | .dma s => if 4 ≤ s.val then {false} else ∅
    else ∅
  unitless _ := False
  amount g _ _ :=
    match g.2 with
    | .reg _ => 1
    | .dma s => if s.val < 36 then NK else NX
  payload g _ b :=
    match g.2 with
    | .reg _ => barPay g.1.1 b
    | .dma s => dmaPay K V g.1.1 ((s.val - 4) / 8) ⟨(s.val - 4) % 8, Nat.mod_lt _ (by decide)⟩
  amount_pos g r d _ := by
    rcases g with ⟨t, s | s⟩
    · exact Nat.one_pos
    · show 0 < if s.val < 36 then NK else NX
      split
      · exact NK_pos
      · exact NX_pos

instance dmaPay_storable (d : Dev nD) (k : Nat) (i : Fin 8) : BI.Storable (upEmb : UEmb _ 𝕄) (dmaPay K V d k i) := by
  unfold dmaPay
  split <;> infer_instance

instance barPay_storable (d : Dev nD) (b : Bool) : BI.Storable (upEmb : UEmb _ 𝕄) (barPay (F := F) d b) := by
  unfold barPay lendX lendY anyR
  split <;> infer_instance

instance sched_storable (g : GSem nD τ sig) (r : ℕ) (b : Bool) :
    BI.Storable (upEmb : UEmb _ 𝕄) ((sched K V).payload g r b) := by
  rcases g with ⟨t, s | s⟩
  · exact barPay_storable _ _
  · exact dmaPay_storable _ _ _ _ _

theorem duties_br (d : Dev nD) : (sched K V).duties (br d) 0 = Finset.univ := rfl
theorem duties_cl (d : Dev nD) (k : Fin 6) (i : Fin 8) : (sched K V).duties (cl d k i) 0 = {false} := by
  show (if 4 ≤ 4 + 8 * k.val + i.val then ({false} : Finset Bool) else ∅) = {false}
  rw [if_pos (by omega)]
theorem duties_later (g : GSem nD τ sig) : ∀ r, 1 ≤ r → (sched K V).duties g r = ∅ := fun r hr => by
  dsimp only [sched]; rw [if_neg (fun h => by omega)]

theorem amount_br (d : Dev nD) (b : Bool) : (sched K V).amount (br d) 0 b = 1 := rfl
theorem amount_clK (d : Dev nD) (k : Fin 6) (i : Fin 8) (b : Bool) (h : k.val < 4) :
    (sched K V).amount (cl d k i) 0 b = NK := by
  show (if 4 + 8 * k.val + i.val < 36 then NK else NX) = NK
  rw [if_pos (by omega)]
theorem amount_clX (d : Dev nD) (k : Fin 6) (i : Fin 8) (b : Bool) (h : 4 ≤ k.val) :
    (sched K V).amount (cl d k i) 0 b = NX := by
  show (if 4 + 8 * k.val + i.val < 36 then NK else NX) = NX
  rw [if_neg (by omega)]

theorem expect_br (d : Dev nD) : (sched K V).expect (br d) 0 = 2 := by
  unfold Schedule.expect Schedule.amountOf; rw [duties_br]; rfl
theorem expect_clK (d : Dev nD) (k : Fin 6) (i : Fin 8) (h : k.val < 4) : (sched K V).expect (cl d k i) 0 = NK := by
  unfold Schedule.expect Schedule.amountOf; rw [duties_cl, Finset.sum_singleton, amount_clK K V d k i _ h]
theorem expect_clX (d : Dev nD) (k : Fin 6) (i : Fin 8) (h : 4 ≤ k.val) : (sched K V).expect (cl d k i) 0 = NX := by
  unfold Schedule.expect Schedule.amountOf; rw [duties_cl, Finset.sum_singleton, amount_clX K V d k i _ h]

theorem payload_br (d : Dev nD) (b : Bool) : (sched K V).payload (br d) 0 b = barPay d b := rfl
theorem payload_cl (d : Dev nD) (k : Fin 6) (i : Fin 8) (b : Bool) :
    (sched K V).payload (cl d k i) 0 b = dmaPay K V d k.val i := by
  show dmaPay K V d ((4 + 8 * k.val + i.val - 4) / 8) ⟨(4 + 8 * k.val + i.val - 4) % 8, _⟩ = _
  congr 1
  · omega
  · apply Fin.ext
    show (4 + 8 * k.val + i.val - 4) % 8 = i.val
    omega

theorem rest_br (d : Dev nD) :
    bigSep ((sched K V).duties (br d) 0 \ ∅) (fun b => (sched K V).payload (br d) 0 b)
      = iprop(bigSep Finset.univ (lendY (F := F) d) ∗ bigSep Finset.univ (lendX d)) := by
  rw [Finset.sdiff_empty, duties_br, show (Finset.univ : Finset Bool) = insert false {true} from by decide,
    bigSep_insert (by decide), bigSep_singleton]
  rfl
theorem rest_cl (d : Dev nD) (k : Fin 6) (i : Fin 8) :
    bigSep ((sched K V).duties (cl d k i) 0 \ ∅) (fun b => (sched K V).payload (cl d k i) 0 b)
      = dmaPay K V d k.val i := by
  rw [Finset.sdiff_empty, duties_cl, bigSep_singleton, payload_cl]

end Sched

/-! ## What a device owes, and the levels -/

/-- The tallies of the chunks from the `n`-th on. -/
def fromSum (n : Nat) (t : Fin 8 → CellTallies nD τ sig Unit) : CellTallies nD τ sig Unit :=
  ∑ i : Fin 8, if n ≤ i.val then t i else 0

theorem fromSum_step (t : Fin 8 → CellTallies nD τ sig Unit) (i : Fin 8) :
    fromSum i.val t = fromSum (i.val + 1) t + t i := by
  unfold fromSum
  have h : ∀ j : Fin 8, (if i.val ≤ j.val then t j else 0)
      = (if i.val + 1 ≤ j.val then t j else 0) + (if j = i then t j else 0) := by
    intro j
    by_cases h1 : j = i
    · subst h1; simp
    · have : j.val ≠ i.val := fun h => h1 (Fin.ext h)
      by_cases h2 : i.val + 1 ≤ j.val
      · rw [if_pos (by omega), if_pos h2, if_neg h1, add_zero]
      · rw [if_neg (by omega), if_neg h2, if_neg h1, add_zero]
  rw [Finset.sum_congr rfl fun j _ => h j, Finset.sum_add_distrib, Finset.sum_ite_eq' Finset.univ i t,
    if_pos (Finset.mem_univ i)]

theorem fromSum_end (t : Fin 8 → CellTallies nD τ sig Unit) : fromSum 8 t = 0 := by
  unfold fromSum
  exact Finset.sum_eq_zero fun i _ => if_neg (by omega)

theorem fromSum_zero (t : Fin 8 → CellTallies nD τ sig Unit) : fromSum 0 t = ∑ i : Fin 8, t i := by
  unfold fromSum
  exact Finset.sum_congr rfl fun i _ => if_pos (Nat.zero_le _)

theorem fromSum_pos (n : Nat) (t : Fin 8 → CellTallies nD τ sig Unit) (g : GSem nD τ sig) (u : Unit)
    (h : 0 < fromSum n t g u) : ∃ i : Fin 8, 0 < t i g u := by
  by_contra hn
  push Not at hn
  have : fromSum n t g u = 0 := by
    unfold fromSum
    rw [Finset.sum_apply, Finsupp.finset_sum_apply]
    refine Finset.sum_eq_zero fun i _ => ?_
    have := hn i
    split
    · omega
    · rfl
  omega

/-- The units for chunk `i` at the neighbour, and at the replica. -/
def tY (d : Dev nD) (i : Fin 8) : CellTallies nD τ sig Unit := tallyAt (cl (yn d) 3 i) () NK + tallyAt (cl (yn d) 1 i) () NK
def tX (d : Dev nD) (i : Fin 8) : CellTallies nD τ sig Unit := tallyAt (cl (xn d) 5 i) () NX

/-- After the barrier; and at the start. -/
def O₁ (d : Dev nD) : CellTallies nD τ sig Unit := fromSum 0 (tX d) + fromSum 0 (tY d)
def O₀ (d : Dev nD) : CellTallies nD τ sig Unit := O₁ d + tallyAt (br (xn d)) () 1 + tallyAt (br (yn d)) () 1

def L (g : GSem nD τ sig) : Finset Unit := if g.1.2 = .tc then {()} else ∅

/-- Barriers at 1, chunks from the neighbour at 2, chunks from the replica at 3, all else at 0. -/
def lv (g : GSem nD τ sig) (_ : Unit) : ℕ :=
  match g.2 with
  | .reg _ => 1
  | .dma s => if s.val < 4 then 0 else if (s.val - 4) / 8 = 5 then 3 else if (s.val - 4) / 8 % 2 = 1 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_cl (d : Dev nD) (k : Fin 6) (i : Fin 8) (u : Unit) :
    lv (cl d k i) u = if k.val = 5 then 3 else if k.val % 2 = 1 then 2 else 0 := by
  show (if 4 + 8 * k.val + i.val < 4 then 0 else if (4 + 8 * k.val + i.val - 4) / 8 = 5 then 3
    else if (4 + 8 * k.val + i.val - 4) / 8 % 2 = 1 then 2 else 0) = _
  rw [if_neg (by omega), show (4 + 8 * k.val + i.val - 4) / 8 = k.val by omega]

theorem tallyAt_pos {g g' : GSem nD τ sig} {n : ℕ} {u : Unit} (h : 0 < tallyAt g () n g' u) : g' = g := by
  rw [tallyAt_apply] at h
  by_contra hn
  rw [if_neg (fun hh => hn hh.1)] at h
  exact absurd h (Nat.lt_irrefl 0)

theorem tX_pos {d : Dev nD} {n : Nat} {g : GSem nD τ sig} {u : Unit} (h : 0 < fromSum n (tX d) g u) :
    u ∈ L g ∧ 2 < lv g u := by
  obtain ⟨i, hi⟩ := fromSum_pos _ _ _ _ h
  rw [tallyAt_pos hi, L_tc, lv_cl]
  exact ⟨Finset.mem_singleton_self _, by decide⟩

theorem tY_pos {d : Dev nD} {n : Nat} {g : GSem nD τ sig} {u : Unit} (h : 0 < fromSum n (tY d) g u) :
    u ∈ L g ∧ 1 < lv g u := by
  obtain ⟨i, hi⟩ := fromSum_pos _ _ _ _ h
  have hi' : 0 < tallyAt (cl (yn d) 3 i) () NK g u + tallyAt (cl (yn d) 1 i) () NK g u := hi
  have hg : g = cl (yn d) 3 i ∨ g = cl (yn d) 1 i := by
    rcases Nat.lt_or_ge 0 (tallyAt (cl (yn d) 3 i) () NK g u) with h1 | h1
    · exact .inl (tallyAt_pos h1)
    · have h2 : 0 < tallyAt (cl (yn d) 1 i) () NK g u := by omega
      exact .inr (tallyAt_pos h2)
  rcases hg with rfl | rfl
  all_goals
    rw [L_tc, lv_cl]
    exact ⟨Finset.mem_singleton_self _, by decide⟩

theorem O₁_pos {d : Dev nD} {g : GSem nD τ sig} {u : Unit} (h : 0 < O₁ d g u) : u ∈ L g ∧ 1 < lv g u := by
  have h' : 0 < fromSum 0 (tX d) g u + fromSum 0 (tY d) g u := h
  rcases Nat.lt_or_ge 0 (fromSum 0 (tX d) g u) with h1 | h1
  · exact ⟨(tX_pos h1).1, by have := (tX_pos h1).2; omega⟩
  · exact tY_pos (d := d) (n := 0) (by omega)

theorem O₀_pos {d : Dev nD} {g : GSem nD τ sig} {u : Unit} (h : 0 < O₀ d g u) : u ∈ L g ∧ 0 < lv g u := by
  have h' : 0 < O₁ d g u + tallyAt (br (xn d)) () 1 g u + tallyAt (br (yn d)) () 1 g u := h
  rcases Nat.lt_or_ge 0 (O₁ d g u) with h1 | h1
  · exact ⟨(O₁_pos h1).1, by have := (O₁_pos h1).2; omega⟩
  have hg : g = br (xn d) ∨ g = br (yn d) := by
    rcases Nat.lt_or_ge 0 (tallyAt (br (xn d)) () 1 g u) with h1 | h1
    · exact .inl (tallyAt_pos h1)
    · have h2 : 0 < tallyAt (br (yn d)) () 1 g u := by omega
      exact .inr (tallyAt_pos h2)
  rcases hg with rfl | rfl
  all_goals
    rw [L_tc]
    exact ⟨Finset.mem_singleton_self _, Nat.one_pos⟩

/-- A wait on a cell at a level below everything owed is allowed. -/
theorem mayWait (c : Dev nD) (sm : SemLoc sig) (n : ℕ) (O : CellTallies nD τ sig Unit)
    (hn : lv ((c : Thread nD τ), sm) () ≤ n) (hO : ∀ g u, 0 < O g u → u ∈ L g ∧ n < lv g u) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => (hO g u hg).1)
    (fun p hp => by rw [Finset.mem_singleton.mp hp]; exact hn)
    (fun g u hg => (hO g u hg).2)

end Cert.KernelIdeal.Attn
-- ==== Proof.Steps.lean ====
module

public import proofs.«01_k».proof.Proof.Protocol

/-!
# The steps of the body

What the accumulator and the output hold in the end, and what each step of the body does to what a device holds.
-/

@[expose] public section

open Idealize.ShloMosaic Idealize.ShloMosaic.TcCoe
open Idealize.SL
open Idealize.SL.BI (sProp bigSep bigSep_sep' bigSep_singleton bigSep_insert)
open scoped Idealize.SL.BI
open Idealize.SL.BI.BIBase Idealize.SL.BI.Laws Idealize.SL.ProofMode Idealize.SL.Sem
open Idealize.SL.RA
open Idealize.ShloMosaic.Rounds
open Cert.KernelIdeal Cert.KernelIdeal.Gen

set_option synthInstance.maxSize 4096

noncomputable section

namespace Cert.KernelIdeal.Attn

variable {F : FTy → Type} [FloatOps F] [Named F]

local notation "𝕄" => MT nD τ sig Unit (Elt F) ℕ UU ℕ

abbrev 𝒱₀ : Variants := Variants.none

/-- Running `K` on device `d` ends in `Q`. -/
abbrev runs (d : Dev nD) (K : P F) (Q : PUnit → sProp 𝕄) : sProp 𝕄 :=
  wp frame (wpE (defs₀ (F := F)) 𝒱₀ (d : Thread nD τ) none) Set.univ K Q

/-! ## Loops -/

theorem bigSep_succ {M : Type} [URA M] {n : Nat} (Φ : Fin (n + 1) → sProp M) :
    bigSep Finset.univ Φ = iprop(Φ 0 ∗ bigSep Finset.univ fun i : Fin n => Φ i.succ) := by
  rw [Fin.univ_succ, Finset.cons_eq_insert, bigSep_insert (by simp [Fin.succ_ne_zero]), BI.bigSep_map]
  rfl

/-- A loop: step `i` turns `A i` into `B i` and the running state `S i` into `S (i + 1)`. -/
theorem runs_rep (d : Dev nD) (Q : PUnit → sProp 𝕄) {n : Nat} (f : Fin n → P F → P F) (S : Nat → sProp 𝕄)
    (A B : Fin n → sProp 𝕄)
    (step : ∀ (i : Fin n) (K : P F), iprop(S i.val ∗ A i ∗ (S (i.val + 1) ∗ B i -∗ runs d K Q)) ⊢ runs d (f i K) Q)
    (K : P F) :
    iprop(S 0 ∗ bigSep Finset.univ A ∗ (S n ∗ bigSep Finset.univ B -∗ runs d K Q)) ⊢ runs d (rep n f K) Q := by
  induction n generalizing S with
  | zero =>
    rw [show rep 0 f K = K from rfl]
    iintro ⟨HS, HA, Hk⟩
    iapply Hk
    isplitl [HS]; · iexact HS
    rw [Finset.univ_eq_empty, BI.bigSep_empty, BI.bigSep_empty]
    exact BI.Entails.refl _
  | succ n ih =>
    rw [show rep (n + 1) f K = f 0 (rep n (fun i => f i.succ) K) from Fin.foldr_succ f K, bigSep_succ A, bigSep_succ B]
    have step0 : ∀ K : P F, iprop(S 0 ∗ A 0 ∗ (S (0 + 1) ∗ B 0 -∗ runs d K Q)) ⊢ runs d (f 0 K) Q := step 0
    iintro ⟨HS, ⟨HA0, HA⟩, Hk⟩
    iapply (step0 _)
    isplitl [HS]; · iexact HS
    isplitl [HA0]; · iexact HA0
    iintro ⟨HS, HB0⟩
    iapply (ih (fun i => f i.succ) (fun j => S (j + 1)) (fun i => A i.succ) (fun i => B i.succ) (fun i K => step i.succ K))
    isplitl [HS]; · iexact HS
    isplitl [HA]; · iexact HA
    iintro ⟨HS, HB⟩
    iapply Hk
    isplitl [HS]; · iexact HS
    isplitl [HB0]; · iexact HB0
    iexact HB

/-! ## What the buffers hold in the end -/

/-- Rectangle `r` of `f`. -/
abbrev rd {s : Shape} {α : Type} (r : Rect s) (f : s.Idx → α) : r.shape.Idx → α := fun y => f (r.emb y)

section Contents
variable (Q K V : Dev nD → S4x256x1024.Idx → Elt F .bf16)

/-- The number of the block an index of the accumulator lies in, and the index in that block. -/
def acN (x : S4x8x256x256.Idx) : Fin 32 := ⟨8 * (x 0).val + (x 1).val, by
  have h0 : (x 0).val < 4 := (x 0).isLt
  have h1 : (x 1).val < 8 := (x 1).isLt
  omega⟩
def acI (x : S4x8x256x256.Idx) : S1x1x256x256.Idx := fun a => ⟨(![0, 0, (x 2).val, (x 3).val] : Fin 4 → Nat) a, by
  have h2 : (x 2).val < 256 := (x 2).isLt
  have h3 : (x 3).val < 256 := (x 3).isLt
  fin_cases a
  · exact Nat.one_pos
  · exact Nat.one_pos
  · exact h2
  · exact h3⟩

/-- The accumulator: every block the device's own part. -/
def accF (d : Dev nD) (x : S4x8x256x256.Idx) : Elt F .f32 :=
  locBlk (rd (hdR (acN x)) (Q d)) (rd (hdR (acN x)) (K d)) (rd (hdR (acN x)) (V d)) (acI x)

/-- The place in the order in which the batches are finished, the head pair, and the index in the block. -/
def ouJ (d : Dev nD) (x : S4x256x1024.Idx) : Fin 4 := ⟨((x 0).val + 4 - 2 * hf d) % 4, Nat.mod_lt _ (by decide)⟩
def ouH (x : S4x256x1024.Idx) : Fin 8 := ⟨(x 2).val / 128, by
  have h2 : (x 2).val < 1024 := (x 2).isLt
  omega⟩
def ouI (x : S4x256x1024.Idx) : S1x256x128.Idx := fun a => ⟨(![0, (x 1).val, (x 2).val % 128] : Fin 3 → Nat) a, by
  have h1 : (x 1).val < 256 := (x 1).isLt
  fin_cases a
  · exact Nat.one_pos
  · exact h1
  · exact Nat.mod_lt _ (by decide)⟩

/-- The output. -/
def outF (d : Dev nD) (x : S4x256x1024.Idx) : Elt F .f32 :=
  remBlk (ouH x) (rd (ouR d (ouJ d x) (ouH x)) (Q d)) (rd (rbR d (ouJ d x)) (rkvF K V d))
    (rd (a0R d (ouJ d x) (ouH x)) (accF Q K V d)) (rd (a1R d (ouJ d x) (ouH x)) (accF Q K V d)) (ouI x)

theorem acN_emb (n : Fin 32) (y : (acR n).shape.Idx) : acN ((acR n).emb y) = n := by
  apply Fin.ext
  have h0 : (y 0).val < 1 := (y 0).isLt
  have h1 : (y 1).val < 1 := (y 1).isLt
  show 8 * (n.val / 8 + 1 * (y 0).val) + (n.val % 8 + 1 * (y 1).val) = n.val
  omega

theorem acI_emb (n : Fin 32) (y : (acR n).shape.Idx) : acI ((acR n).emb y) = y := by
  have h0 : (y 0).val < 1 := (y 0).isLt
  have h1 : (y 1).val < 1 := (y 1).isLt
  funext a
  apply Fin.ext
  fin_cases a
  · show 0 = (y 0).val
    omega
  · show 0 = (y 1).val
    omega
  · show 0 + 1 * (y 2).val = (y 2).val
    omega
  · show 0 + 1 * (y 3).val = (y 3).val
    omega

theorem accF_emb (d : Dev nD) (n : Fin 32) (y : (acR n).shape.Idx) :
    accF Q K V d ((acR n).emb y) = locBlk (rd (hdR n) (Q d)) (rd (hdR n) (K d)) (rd (hdR n) (V d)) y := by
  unfold accF
  rw [acN_emb, acI_emb]

theorem mem_acR (n : Fin 32) (x : S4x8x256x256.Idx) (h : acN x = n) : x ∈ (acR n).set := by
  have hn : 8 * (x 0).val + (x 1).val = n.val := congrArg Fin.val h
  have h1 : (x 1).val < 8 := (x 1).isLt
  have h2 : (x 2).val < 256 := (x 2).isLt
  have h3 : (x 3).val < 256 := (x 3).isLt
  simp only [acR, Rect.mem_set_unit, Fin.forall_fin_succ]
  simp
  omega

theorem stW_eq : ∀ (d : Dev nD) (j : Fin 4), stW d j = (2 * hf d + j.val) % 4 := by decide +kernel

theorem ouJ_emb (d : Dev nD) (j : Fin 4) (h : Fin 8) (y : (ouR d j h).shape.Idx) : ouJ d ((ouR d j h).emb y) = j := by
  apply Fin.ext
  have h0 : (y 0).val < 1 := (y 0).isLt
  have := stW_eq d j
  have := hf_lt d
  show (stW d j + 1 * (y 0).val + 4 - 2 * hf d) % 4 = j.val
  omega
theorem ouH_emb (d : Dev nD) (j : Fin 4) (h : Fin 8) (y : (ouR d j h).shape.Idx) : ouH ((ouR d j h).emb y) = h := by
  apply Fin.ext
  have h2 : (y 2).val < 128 := (y 2).isLt
  show (128 * h.val + 1 * (y 2).val) / 128 = h.val
  omega
theorem ouI_emb (d : Dev nD) (j : Fin 4) (h : Fin 8) (y : (ouR d j h).shape.Idx) : ouI ((ouR d j h).emb y) = y := by
  have h0 : (y 0).val < 1 := (y 0).isLt
  have h2 : (y 2).val < 128 := (y 2).isLt
  funext a
  apply Fin.ext
  fin_cases a
  · show 0 = (y 0).val
    omega
  · show 0 + 1 * (y 1).val = (y 1).val
    omega
  · show (128 * h.val + 1 * (y 2).val) % 128 = (y 2).val
    omega

theorem outF_emb (d : Dev nD) (j : Fin 4) (h : Fin 8) (y : (ouR d j h).shape.Idx) :
    outF Q K V d ((ouR d j h).emb y) = remBlk h (rd (ouR d j h) (Q d)) (rd (rbR d j) (rkvF K V d))
      (rd (a0R d j h) (accF Q K V d)) (rd (a1R d j h) (accF Q K V d)) y := by
  unfold outF
  rw [ouJ_emb, ouH_emb, ouI_emb]

theorem mem_ouR (d : Dev nD) (j : Fin 4) (h : Fin 8) (x : S4x256x1024.Idx) (hj : ouJ d x = j) (hh : ouH x = h) :
    x ∈ (ouR d j h).set := by
  have h0 : (x 0).val < 4 := (x 0).isLt
  have h1 : (x 1).val < 256 := (x 1).isLt
  have hj' : ((x 0).val + 4 - 2 * hf d) % 4 = j.val := congrArg Fin.val hj
  have hh' : (x 2).val / 128 = h.val := congrArg Fin.val hh
  have := stW_eq d j
  have := hf_lt d
  simp only [ouR, Rect.mem_set_unit, Fin.forall_fin_succ]
  simp
  omega

/-! ## Running states -/

/-- The accumulator with its first `n` blocks in place. -/
def accSt (d : Dev nD) (n : Nat) : sProp 𝕄 :=
  iprop(∃ f : S4x8x256x256.Idx → Elt F .f32, ⌜∀ x, (acN x).val < n → f x = accF Q K V d x⌝ ∗ lA d ↦[Finset.univ]{fullShare} f)

/-- The output with its first `n` blocks in place, in the order they are finished. -/
def outSt (d : Dev nD) (n : Nat) : sProp 𝕄 :=
  iprop(∃ f : S4x256x1024.Idx → Elt F .f32, ⌜∀ x, 8 * (ouJ d x).val + (ouH x).val < n → f x = outF Q K V d x⌝
    ∗ lO d ↦[Finset.univ]{fullShare} f)

/-- The device's own inputs, keys and values at a half share. -/
def inp (d : Dev nD) : sProp 𝕄 :=
  iprop((lQ d ↦[Finset.univ]{fullShare} Q d) ∗ (lK d ↦[Finset.univ]{fullShare.left} K d)
    ∗ (lV d ↦[Finset.univ]{fullShare.left} V d))

theorem loc_step (d : Dev nD) (Qp : PUnit → sProp 𝕄) (n : Fin 32) (k : P F) :
    iprop(inp Q K V d ∗ accSt Q K V d n.val ∗ (inp Q K V d ∗ accSt Q K V d (n.val + 1) -∗ runs d k Qp))
      ⊢ runs d (locB n k) Qp := by
  unfold locB inp accSt runs
  iintro ⟨⟨HQ, HK, HV⟩, ⟨%f, %hf, HA⟩, Hk⟩
  iapply (wp_load_rect 𝒱₀ (d : Thread nD τ) none Set.univ (m := mQ) (r := hdR n) (Finset.subset_univ _)) $$ HQ
  iintro HQ
  iapply (wp_load_rect 𝒱₀ (d : Thread nD τ) none Set.univ (m := mK) (r := hdR n) (Finset.subset_univ _)) $$ HK
  iintro HK
  iapply (wp_load_rect 𝒱₀ (d : Thread nD τ) none Set.univ (m := mV) (r := hdR n) (Finset.subset_univ _)) $$ HV
  iintro HV
  iapply (wp_load_rect 𝒱₀ (d : Thread nD τ) none Set.univ (m := mA) (r := acR n) (Finset.subset_univ _)) $$ HA
  iintro HA
  iapply (wp_store 𝒱₀ (d : Thread nD τ) none Set.univ (m := mA) (r := acR n) (Finset.subset_univ _)) $$ HA
  iintro HA
  iapply Hk
  isplitl [HQ HK HV]
  · isplitl [HQ]; · iexact HQ
    isplitl [HK]; · iexact HK
    iexact HV
  iexists _
  isplitr [HA]
  swap
  · iexact HA
  ipureintro
  intro x hx
  by_cases hn : acN x = n
  · have hm := mem_acR n x hn
    rw [← Rect.map_emb_univ, Finset.mem_map] at hm
    obtain ⟨y, -, rfl⟩ := hm
    rw [accF_emb]
    exact (View.write_emb_of_mem (v := mA.access (acR n)) (Val := Elt F) _ _ (Finset.mem_univ y))
  · have hlt : (acN x).val < n.val := by
      have : (acN x).val ≠ n.val := fun h => hn (Fin.ext h)
      omega
    rw [← hf x hlt]
    refine View.write_of_not_mem (v := mA.access (acR n)) (Val := Elt F) _ _ _ ?_
    intro hm
    obtain ⟨y, -, rfl⟩ := Finset.mem_map.mp hm
    exact hn (acN_emb n y)

/-- What one finishing step reads of the receive buffer: its batch. -/
def bs (d : Dev nD) (j : Fin 4) : Finset S4x256x2048.Idx := Finset.univ.filter fun x => (x 0).val = stW d j

theorem rbR_set (d : Dev nD) (j : Fin 4) : (rbR d j).set = bs d j := by
  ext x
  have h1 : (x 1).val < 256 := (x 1).isLt
  have h2 : (x 2).val < 2048 := (x 2).isLt
  simp only [rbR, Rect.mem_set_unit, bs, Finset.mem_filter, Finset.mem_univ, true_and, Fin.forall_fin_succ]
  simp
  omega

theorem acN_a0 (d : Dev nD) (j : Fin 4) (h : Fin 8) (y : (a0R d j h).shape.Idx) :
    (acN ((a0R d j h).emb y)).val = 8 * stW d j + h.val := by
  have h0 : (y 0).val < 1 := (y 0).isLt
  have h1 : (y 1).val < 1 := (y 1).isLt
  show 8 * (stW d j + 1 * (y 0).val) + (h.val + 1 * (y 1).val) = _
  omega
theorem acN_a1 (d : Dev nD) (j : Fin 4) (h : Fin 8) (y : (a1R d j h).shape.Idx) :
    (acN ((a1R d j h).emb y)).val = 8 * stW d j + h.val := by
  have h0 : (y 0).val < 1 := (y 0).isLt
  have h1 : (y 1).val < 1 := (y 1).isLt
  show 8 * (stW d j + 1 * (y 0).val) + (h.val + 1 * (y 1).val) = _
  omega

/-- The batch a finishing step needs, received. -/
def got (d : Dev nD) (j : Fin 4) (q : PosShare TreeShare) : sProp 𝕄 := iprop(lR d ↦[bs d j]{q} rkvF K V d)

theorem rem_step (d : Dev nD) (Qp : PUnit → sProp 𝕄) (j : Fin 4) (h : Fin 8) (q : PosShare TreeShare) (m : Nat)
    (hm : 8 * stW d j + h.val < m) (n : Nat) (hn : n = 8 * j.val + h.val) (k : P F) :
    iprop((inp Q K V d ∗ got K V d j q ∗ accSt Q K V d m ∗ outSt Q K V d n)
        ∗ ((inp Q K V d ∗ got K V d j q ∗ accSt Q K V d m ∗ outSt Q K V d (n + 1)) -∗ runs d k Qp))
      ⊢ runs d (remB d j h k) Qp := by
  subst hn
  unfold remB inp accSt outSt got runs
  iintro ⟨⟨⟨HQ, HK, HV⟩, HR, ⟨%f, %hf, HA⟩, ⟨%g, %hg, HO⟩⟩, Hk⟩
  iapply (wp_load_rect 𝒱₀ (d : Thread nD τ) none Set.univ (m := mQ) (r := ouR d j h) (Finset.subset_univ _)) $$ HQ
  iintro HQ
  iapply (wp_load_rect 𝒱₀ (d : Thread nD τ) none Set.univ (m := mR) (r := rbR d j)
    (by rw [View.set_slice_whole, rbR_set])) $$ HR
  iintro HR
  iapply (wp_load_rect 𝒱₀ (d : Thread nD τ) none Set.univ (m := mA) (r := a0R d j h) (Finset.subset_univ _)) $$ HA
  iintro HA
  iapply (wp_load_rect 𝒱₀ (d : Thread nD τ) none Set.univ (m := mA) (r := a1R d j h) (Finset.subset_univ _)) $$ HA
  iintro HA
  iapply (wp_load_rect 𝒱₀ (d : Thread nD τ) none Set.univ (m := mO) (r := ouR d j h) (Finset.subset_univ _)) $$ HO
  iintro HO
  iapply (wp_store 𝒱₀ (d : Thread nD τ) none Set.univ (m := mO) (r := ouR d j h) (Finset.subset_univ _)) $$ HO
  iintro HO
  have e0 : rd (a0R d j h) f = rd (a0R d j h) (accF Q K V d) :=
    funext fun y => hf _ (by rw [acN_a0]; exact hm)
  have e1 : rd (a1R d j h) f = rd (a1R d j h) (accF Q K V d) :=
    funext fun y => hf _ (by rw [acN_a1]; exact hm)
  iapply Hk
  isplitl [HQ HK HV]
  · isplitl [HQ]; · iexact HQ
    isplitl [HK]; · iexact HK
    iexact HV
  isplitl [HR]; · iexact HR
  isplitl [HA]
  · iexists f
    isplitr; · ipureintro; exact hf
    iexact HA
  iexists _
  isplitr [HO]
  swap
  · iexact HO
  ipureintro
  intro x hx
  by_cases hc : ouJ d x = j ∧ ouH x = h
  · have hmem := mem_ouR d j h x hc.1 hc.2
    rw [← Rect.map_emb_univ, Finset.mem_map] at hmem
    obtain ⟨y, -, rfl⟩ := hmem
    rw [outF_emb, ← e0, ← e1]
    exact (View.write_emb_of_mem (v := mO.access (ouR d j h)) (Val := Elt F) _ _ (Finset.mem_univ y))
  · have hlt : 8 * (ouJ d x).val + (ouH x).val < 8 * j.val + h.val := by
      have h1 := (ouH x).isLt
      have : ¬ ((ouJ d x).val = j.val ∧ (ouH x).val = h.val) := fun hh => hc ⟨Fin.ext hh.1, Fin.ext hh.2⟩
      omega
    rw [← hg x hlt]
    refine View.write_of_not_mem (v := mO.access (ouR d j h)) (Val := Elt F) _ _ _ ?_
    intro hm
    obtain ⟨y, -, rfl⟩ := Finset.mem_map.mp hm
    exact hc ⟨ouJ_emb d j h y, ouH_emb d j h y⟩

end Contents

end Cert.KernelIdeal.Attn
-- ==== Proof.Comm.lean ====
module

public import proofs.«01_k».proof.Proof.Steps

/-!
# The communicating steps

The barrier, the sends to the neighbour, the relays to the replica, and the waits.
-/

@[expose] public section

open Idealize.ShloMosaic Idealize.ShloMosaic.TcCoe
open Idealize.SL
open Idealize.SL.BI (sProp bigSep bigSep_sep' bigSep_singleton bigSep_insert)
open scoped Idealize.SL.BI
open Idealize.SL.BI.BIBase Idealize.SL.BI.Laws Idealize.SL.ProofMode Idealize.SL.Sem
open Idealize.SL.RA
open Idealize.ShloMosaic.Rounds
open Cert.KernelIdeal Cert.KernelIdeal.Gen

set_option synthInstance.maxSize 4096

noncomputable section

namespace Cert.KernelIdeal.Attn

variable {F : FTy → Type} [FloatOps F] [Named F]

local notation "𝕄" => MT nD τ sig Unit (Elt F) ℕ UU ℕ

/-! ## Where a transfer reads and writes -/

theorem vK (d : Dev nD) (i : Fin 8) : (cK d i).view.set = kvS (hf d) i := by
  rw [← kvR_set]; exact View.set_slice_whole _ _
theorem vV (d : Dev nD) (i : Fin 8) : (cV d i).view.set = kvS (hf d) i := by
  rw [← kvR_set]; exact View.set_slice_whole _ _
theorem vRk (d : Dev nD) (i : Fin 8) : (cRk d i).view.set = ckS (hf d) i := by
  rw [← rkR_set]; exact View.set_slice_whole _ _
theorem vRv (d : Dev nD) (i : Fin 8) : (cRv d i).view.set = cvS (hf d) i := by
  rw [← rvR_set]; exact View.set_slice_whole _ _
theorem vRx (d : Dev nD) (i : Fin 8) : (cRx d i).view.set = cxS (hf d) i := by
  rw [← rxR_set]; exact View.set_slice_whole _ _

section
variable (Q K V : Dev nD → S4x256x1024.Idx → Elt F .bf16)

theorem land_K (d : Dev nD) (i : Fin 8) (fd : S4x256x2048.Idx → Elt F .bf16) : ∀ x ∈ ckS (hf d) i,
    (cRk d i).view.write (Elt F) fd
      ((cK d i).view.read (Elt F) (K d)) Finset.univ x = rkvF K V (yn d) x := by
  intro x hx
  rw [← rkR_set, ← Rect.map_emb_univ, Finset.mem_map] at hx
  obtain ⟨y, -, rfl⟩ := hx
  refine (View.write_emb_of_mem (v := (cRk d i).view) (Val := Elt F) _ _ (Finset.mem_univ y)).trans ?_
  have hc := chW_two d i
  have h0 : (y 0).val < 1 := (y 0).isLt
  have h2 : (y 2).val < 1024 := (y 2).isLt
  have e0 : (((rkR d i).emb y) 0).val = 2 * hf d + i.val / 4 := by
    show (chW d i).toNat + 1 * (y 0).val = _
    omega
  have e2 : (((rkR d i).emb y) 2).val = (y 2).val := by
    show 0 + 1 * (y 2).val = _
    omega
  unfold rkvF
  dsimp only
  rw [if_pos (by rw [e0, yn_hf]; omega), dif_pos (by rw [e2]; exact h2), yn_yn]
  show K d ((kvR d i).emb y) = _
  congr 1
  funext a
  apply Fin.ext
  fin_cases a
  · rfl
  · rfl
  · rfl

theorem land_V (d : Dev nD) (i : Fin 8) (fd : S4x256x2048.Idx → Elt F .bf16) : ∀ x ∈ cvS (hf d) i,
    (cRv d i).view.write (Elt F) fd
      ((cV d i).view.read (Elt F) (V d)) Finset.univ x = rkvF K V (yn d) x := by
  intro x hx
  rw [← rvR_set, ← Rect.map_emb_univ, Finset.mem_map] at hx
  obtain ⟨y, -, rfl⟩ := hx
  refine (View.write_emb_of_mem (v := (cRv d i).view) (Val := Elt F) _ _ (Finset.mem_univ y)).trans ?_
  have hc := chW_two d i
  have h0 : (y 0).val < 1 := (y 0).isLt
  have h2 : (y 2).val < 1024 := (y 2).isLt
  have e0 : (((rvR d i).emb y) 0).val = 2 * hf d + i.val / 4 := by
    show (chW d i).toNat + 1 * (y 0).val = _
    omega
  have e2 : (((rvR d i).emb y) 2).val = 1024 + (y 2).val := by
    show 1024 + 1 * (y 2).val = _
    omega
  unfold rkvF
  dsimp only
  rw [if_pos (by rw [e0, yn_hf]; omega), dif_neg (by rw [e2]; omega), yn_yn]
  show V d ((kvR d i).emb y) = _
  congr 1
  funext a
  apply Fin.ext
  fin_cases a
  · rfl
  · rfl
  · show 0 + 1 * (y 2).val = 1024 + 1 * (y 2).val - 1024
    omega

theorem land_X (d : Dev nD) (i : Fin 8) (fd : S4x256x2048.Idx → Elt F .bf16) : ∀ x ∈ cxS (hf d) i,
    (cRx d i).view.write (Elt F) fd
      ((cRx d i).view.read (Elt F) (rkvF K V d)) Finset.univ x = rkvF K V (xn d) x := by
  intro x hx
  rw [← rkvF_xn K V d i x hx]
  rw [← rxR_set, ← Rect.map_emb_univ, Finset.mem_map] at hx
  obtain ⟨y, -, rfl⟩ := hx
  exact (View.write_emb_of_mem (v := (cRx d i).view) (Val := Elt F) _ _ (Finset.mem_univ y))

/-! ## A transfer's buffers as parts, and what it pays with -/

theorem src_K (d : Dev nD) (i : Fin 8) (q : PosShare TreeShare) (f : S4x256x1024.Idx → Elt F .bf16) :
    ((cK d i).view.loc (d : Thread nD τ) ↦[(cK d i).view.set]{q} f : sProp 𝕄) = iprop(lK d ↦[kvS (hf d) i]{q} f) := by
  rw [vK]
theorem src_V (d : Dev nD) (i : Fin 8) (q : PosShare TreeShare) (f : S4x256x1024.Idx → Elt F .bf16) :
    ((cV d i).view.loc (d : Thread nD τ) ↦[(cV d i).view.set]{q} f : sProp 𝕄) = iprop(lV d ↦[kvS (hf d) i]{q} f) := by
  rw [vV]
theorem dst_K (c d : Dev nD) (i : Fin 8) (q : PosShare TreeShare) (f : S4x256x2048.Idx → Elt F .bf16) :
    ((cRk d i).view.loc (c : Thread nD τ) ↦[(cRk d i).view.set]{q} f : sProp 𝕄) = iprop(lR c ↦[ckS (hf d) i]{q} f) := by
  rw [vRk]
theorem dst_V (c d : Dev nD) (i : Fin 8) (q : PosShare TreeShare) (f : S4x256x2048.Idx → Elt F .bf16) :
    ((cRv d i).view.loc (c : Thread nD τ) ↦[(cRv d i).view.set]{q} f : sProp 𝕄) = iprop(lR c ↦[cvS (hf d) i]{q} f) := by
  rw [vRv]
theorem dst_X (c d : Dev nD) (i : Fin 8) (q : PosShare TreeShare) (f : S4x256x2048.Idx → Elt F .bf16) :
    ((cRx d i).view.loc (c : Thread nD τ) ↦[(cRx d i).view.set]{q} f : sProp 𝕄) = iprop(lR c ↦[cxS (hf d) i]{q} f) := by
  rw [vRx]

theorem pay_K (d : Dev nD) (i : Fin 8) (fd : S4x256x2048.Idx → Elt F .bf16) :
    ((cRk d i).view.loc (yn d : Thread nD τ) ↦[(cRk d i).view.set]{fullShare}
        (cRk d i).view.write (Elt F) fd ((cK d i).view.read (Elt F) (K d)) Finset.univ : sProp 𝕄)
      = (sched K V).payload (cl (yn d) 1 i) 0 false := by
  rw [vRk, payload_cl]
  refine (pointsTo_congr (land_K K V d i fd)).trans ?_
  show _ = iprop(lR (yn d) ↦[ckS (hf (yn d)) i]{fullShare} rkvF K V (yn d))
  rw [yn_hf]
theorem pay_V (d : Dev nD) (i : Fin 8) (fd : S4x256x2048.Idx → Elt F .bf16) :
    ((cRv d i).view.loc (yn d : Thread nD τ) ↦[(cRv d i).view.set]{fullShare}
        (cRv d i).view.write (Elt F) fd ((cV d i).view.read (Elt F) (V d)) Finset.univ : sProp 𝕄)
      = (sched K V).payload (cl (yn d) 3 i) 0 false := by
  rw [vRv, payload_cl]
  refine (pointsTo_congr (land_V K V d i fd)).trans ?_
  show _ = iprop(lR (yn d) ↦[cvS (hf (yn d)) i]{fullShare} rkvF K V (yn d))
  rw [yn_hf]
theorem pay_X (d : Dev nD) (i : Fin 8) (fd : S4x256x2048.Idx → Elt F .bf16) :
    ((cRx d i).view.loc (xn d : Thread nD τ) ↦[(cRx d i).view.set]{fullShare}
        (cRx d i).view.write (Elt F) fd ((cRx d i).view.read (Elt F) (rkvF K V d)) Finset.univ : sProp 𝕄)
      = (sched K V).payload (cl (xn d) 5 i) 0 false := by
  rw [vRx, payload_cl]
  refine (pointsTo_congr (land_X K V d i fd)).trans ?_
  show _ = iprop(lR (xn d) ↦[cxS (1 - hf (xn d)) i]{fullShare} rkvF K V (xn d))
  rw [xn_hf, show 1 - (1 - hf d) = hf d by have := hf_lt d; omega]

/-! ## What every device knows -/

theorem one_of {I : Type} [Fintype I] [DecidableEq I] (Φ : I → sProp 𝕄) (i : I) : bigSep Finset.univ Φ ⊢ Φ i :=
  BI.bigSep_elim (Finset.mem_univ i)

/-- Every cell's invariant, every barrier open, and the levels. -/
def env (κ : GSem nD τ sig → ℕ) : sProp 𝕄 :=
  iprop(bigSep Finset.univ (fun d : Dev nD => cellInv ER (sched K V) (κ (br d)) (br d))
    ∗ bigSep Finset.univ (fun p : Dev nD × Fin 6 × Fin 8 =>
        cellInv ER (sched K V) (κ (cl p.1 p.2.1 p.2.2)) (cl p.1 p.2.1 p.2.2))
    ∗ bigSep Finset.univ (fun d : Dev nD => reached ER (br d) 0)
    ∗ levAts L lv)

instance env_persistent (κ : GSem nD τ sig → ℕ) : BI.Persistent (env K V κ) := by unfold env; infer_instance

theorem env_br (κ : GSem nD τ sig → ℕ) (d : Dev nD) : env K V κ ⊢ cellInv ER (sched K V) (κ (br d)) (br d) := by
  unfold env
  iintro ⟨H, -⟩
  iapply (one_of _ d) $$ H
theorem env_cl (κ : GSem nD τ sig → ℕ) (d : Dev nD) (k : Fin 6) (i : Fin 8) :
    env K V κ ⊢ cellInv ER (sched K V) (κ (cl d k i)) (cl d k i) := by
  unfold env
  iintro ⟨-, H, -⟩
  iapply (one_of _ ((d, k, i) : Dev nD × Fin 6 × Fin 8)) $$ H
theorem env_open (κ : GSem nD τ sig → ℕ) (d : Dev nD) : env K V κ ⊢ reached ER (br d) 0 := by
  unfold env
  iintro ⟨-, -, H, -⟩
  iapply (one_of _ d) $$ H
theorem env_lev (κ : GSem nD τ sig → ℕ) : env K V κ ⊢ levAts L lv := by
  unfold env
  iintro ⟨-, -, -, H⟩
  iexact H

/-! ## The running state of the communication -/

/-- What device `d` owes, and what every device knows. -/
def st (κ : GSem nD τ sig → ℕ) (d : Dev nD) (O : CellTallies nD τ sig Unit) : sProp 𝕄 :=
  iprop(env K V κ ∗ ∃ W, owes (d : Thread nD τ) O W)

/-- Before and after the sends of chunk `i` to the neighbour. -/
def yA (d : Dev nD) (i : Fin 8) : sProp 𝕄 :=
  iprop(dutyTok ER (cl d 0 i) 0 false ∗ dutyTok ER (cl (yn d) 1 i) 0 false
    ∗ dutyTok ER (cl d 2 i) 0 false ∗ dutyTok ER (cl (yn d) 3 i) 0 false
    ∗ reached ER (cl d 0 i) 0 ∗ reached ER (cl d 2 i) 0
    ∗ (lK d ↦[kvS (hf d) i]{fullShare.right} K d) ∗ (lV d ↦[kvS (hf d) i]{fullShare.right} V d)
    ∗ lendY d i)
def yB (d : Dev nD) (i : Fin 8) : sProp 𝕄 :=
  iprop(cred (tallyAt (cl d 0 i) () NK) ∗ cred (tallyAt (cl d 2 i) () NK))

theorem sendY_step (κ : GSem nD τ sig → ℕ) (d : Dev nD) (Qp : PUnit → sProp 𝕄) (i : Fin 8) (k : P F) :
    iprop(st K V κ d (fromSum 0 (tX d) + fromSum i.val (tY d)) ∗ yA K V d i
        ∗ (st K V κ d (fromSum 0 (tX d) + fromSum (i.val + 1) (tY d)) ∗ yB d i -∗ runs d k Qp))
      ⊢ runs d (sendK d i (sendV d i k)) Qp := by
  have hO1 : fromSum 0 (tX d) + fromSum i.val (tY d)
      = (fromSum 0 (tX d) + (fromSum (i.val + 1) (tY d) + tallyAt (cl (yn d) 3 i) () NK)) + tallyAt (cl (yn d) 1 i) () NK := by
    rw [fromSum_step]; simp only [tY, add_assoc]
  have hO2 : fromSum 0 (tX d) + (fromSum (i.val + 1) (tY d) + tallyAt (cl (yn d) 3 i) () NK)
      = (fromSum 0 (tX d) + fromSum (i.val + 1) (tY d)) + tallyAt (cl (yn d) 3 i) () NK := by
    simp only [add_assoc]
  unfold sendK sendV st yA yB lendY anyR runs
  iintro ⟨⟨#HE, ⟨%W, HO⟩⟩, ⟨HtK, HtK1, HtV, HtV1, #HrK, #HrV, HK, HV, ⟨%f1, HR1⟩, #HrK1, ⟨%f2, HR2⟩, #HrV1⟩, Hk⟩
  iapply (Rounds.wp_send_pointsTo 𝒱₀ ER (sched K V) (d : Thread nD τ) none (c' := (yn d : Thread nD τ))
      (src := cK d i) (dst := cRk d i)
      (sS := .dma (ds 0 i)) (sem := .dma (ds 1 i)) (q := fullShare.right) (fs := K d)
      (κ₁ := κ (cl d 0 i)) (κ₂ := κ (cl (yn d) 1 i))
      (r₁ := 0) (r₂ := 0) (d₁ := false) (d₂ := false) (fd := f1)
      (by rw [duties_cl]; exact Finset.mem_singleton_self _) (by rw [duties_cl]; exact Finset.mem_singleton_self _)
      () () NK rfl (amount_clK K V d 0 i _ (by decide)) (amount_clK K V (yn d) 1 i _ (by decide))
      (fromSum 0 (tX d) + (fromSum (i.val + 1) (tY d) + tallyAt (cl (yn d) 3 i) () NK))
      hO1 (W := W)
      (Entails.of_eq ((src_K d i _ _).trans (payload_cl K V d 0 i false).symm))
      (Entails.of_eq (pay_K K V d i f1))) $$ [HK HR1 HO HtK HtK1]
  · isplitr; · iapply (env_cl K V κ d 0 i); iexact HE
    isplitr; · iapply (env_cl K V κ (yn d) 1 i); iexact HE
    isplitl [HK]; · iapply (Entails.of_eq (src_K d i _ _).symm); iexact HK
    isplitl [HR1]; · iapply (Entails.of_eq (dst_K (yn d) d i _ _).symm); iexact HR1
    isplitl [HO]; · iexact HO
    isplitl [HtK]; · iexact HtK
    isplitr; · iexact HrK
    isplitl [HtK1]; · iexact HtK1
    iexact HrK1
  iintro ⟨HcK, HO⟩
  iapply (Rounds.wp_send_pointsTo 𝒱₀ ER (sched K V) (d : Thread nD τ) none (c' := (yn d : Thread nD τ))
      (src := cV d i) (dst := cRv d i)
      (sS := .dma (ds 2 i)) (sem := .dma (ds 3 i)) (q := fullShare.right) (fs := V d)
      (κ₁ := κ (cl d 2 i)) (κ₂ := κ (cl (yn d) 3 i))
      (r₁ := 0) (r₂ := 0) (d₁ := false) (d₂ := false) (fd := f2)
      (by rw [duties_cl]; exact Finset.mem_singleton_self _) (by rw [duties_cl]; exact Finset.mem_singleton_self _)
      () () NK rfl (amount_clK K V d 2 i _ (by decide)) (amount_clK K V (yn d) 3 i _ (by decide))
      (fromSum 0 (tX d) + fromSum (i.val + 1) (tY d))
      hO2 (W := W)
      (Entails.of_eq ((src_V d i _ _).trans (payload_cl K V d 2 i false).symm))
      (Entails.of_eq (pay_V K V d i f2))) $$ [HV HR2 HO HtV HtV1]
  · isplitr; · iapply (env_cl K V κ d 2 i); iexact HE
    isplitr; · iapply (env_cl K V κ (yn d) 3 i); iexact HE
    isplitl [HV]; · iapply (Entails.of_eq (src_V d i _ _).symm); iexact HV
    isplitl [HR2]; · iapply (Entails.of_eq (dst_V (yn d) d i _ _).symm); iexact HR2
    isplitl [HO]; · iexact HO
    isplitl [HtV]; · iexact HtV
    isplitr; · iexact HrV
    isplitl [HtV1]; · iexact HtV1
    iexact HrV1
  iintro ⟨HcV, HO⟩
  iapply Hk
  isplitl [HO]
  · isplitr; · iexact HE
    iexists W; iexact HO
  isplitl [HcK]; · iexact HcK
  iexact HcV

/-! ## Waits -/

theorem wait_K (d : Dev nD) (i : Fin 8) (sem : DmaSem sig) (Kt : PUnit → sProp 𝕄)
    {h₁ : (cK d i).view.WordExact} {h₂ : (cRk d i).view.WordExact} :
    wpE (defs₀ (F := F)) 𝒱₀ (d : Thread nD τ) none Set.univ (.waitDma2 sem (cK d i) (cRk d i) h₁ h₂) Kt
      = waitSpec (d : Thread nD τ) Set.univ (.dma sem) NK Kt :=
  (wpE_waitDma2_eq 𝒱₀ (d : Thread nD τ) none Set.univ Kt).trans (by rw [creditK])
theorem wait_V (d : Dev nD) (i : Fin 8) (sem : DmaSem sig) (Kt : PUnit → sProp 𝕄)
    {h₁ : (cV d i).view.WordExact} {h₂ : (cRv d i).view.WordExact} :
    wpE (defs₀ (F := F)) 𝒱₀ (d : Thread nD τ) none Set.univ (.waitDma2 sem (cV d i) (cRv d i) h₁ h₂) Kt
      = waitSpec (d : Thread nD τ) Set.univ (.dma sem) NK Kt :=
  (wpE_waitDma2_eq 𝒱₀ (d : Thread nD τ) none Set.univ Kt).trans (by rw [creditV])
theorem wait_K' (d : Dev nD) (i : Fin 8) (sem : DmaSem sig) (Kt : PUnit → sProp 𝕄)
    {h₁ : (cRk d i).view.WordExact} {h₂ : (cK d i).view.WordExact} :
    wpE (defs₀ (F := F)) 𝒱₀ (d : Thread nD τ) none Set.univ (.waitDma2 sem (cRk d i) (cK d i) h₁ h₂) Kt
      = waitSpec (d : Thread nD τ) Set.univ (.dma sem) NK Kt :=
  (wpE_waitDma2_eq 𝒱₀ (d : Thread nD τ) none Set.univ Kt).trans (by rw [creditK'])
theorem wait_V' (d : Dev nD) (i : Fin 8) (sem : DmaSem sig) (Kt : PUnit → sProp 𝕄)
    {h₁ : (cRv d i).view.WordExact} {h₂ : (cV d i).view.WordExact} :
    wpE (defs₀ (F := F)) 𝒱₀ (d : Thread nD τ) none Set.univ (.waitDma2 sem (cRv d i) (cV d i) h₁ h₂) Kt
      = waitSpec (d : Thread nD τ) Set.univ (.dma sem) NK Kt :=
  (wpE_waitDma2_eq 𝒱₀ (d : Thread nD τ) none Set.univ Kt).trans (by rw [creditV'])
theorem wait_X (d : Dev nD) (i : Fin 8) (sem : DmaSem sig) (Kt : PUnit → sProp 𝕄)
    {h₁ : (cRx d i).view.WordExact} {h₂ : (cRx d i).view.WordExact} :
    wpE (defs₀ (F := F)) 𝒱₀ (d : Thread nD τ) none Set.univ (.waitDma2 sem (cRx d i) (cRx d i) h₁ h₂) Kt
      = waitSpec (d : Thread nD τ) Set.univ (.dma sem) NX Kt :=
  (wpE_waitDma2_eq 𝒱₀ (d : Thread nD τ) none Set.univ Kt).trans (by rw [creditX])

theorem pay_brY (d : Dev nD) : (sched K V).payload (br d) 0 false = bigSep Finset.univ (lendY (F := F) d) := rfl
theorem pay_brX (d : Dev nD) : (sched K V).payload (br d) 0 true = bigSep Finset.univ (lendX (F := F) d) := rfl

/-! ## The barrier -/

def bA (d : Dev nD) : sProp 𝕄 :=
  iprop(atPos ER (br d) 0 ∅ 0 ∗ dutyTok ER (br (yn d)) 0 false ∗ dutyTok ER (br (xn d)) 0 true
    ∗ cred (tallyAt (br d) () 2) ∗ bigSep Finset.univ (lendY (F := F) (yn d)) ∗ bigSep Finset.univ (lendX (F := F) (xn d)))
def bB (d : Dev nD) : sProp 𝕄 :=
  iprop(atPos ER (br d) 1 ∅ 0 ∗ bigSep Finset.univ (lendY (F := F) d) ∗ bigSep Finset.univ (lendX (F := F) d))

theorem barrier_step (κ : GSem nD τ sig → ℕ) (d : Dev nD) (Qp : PUnit → sProp 𝕄) (k : P F) :
    iprop(st K V κ d (O₀ d) ∗ bA d ∗ (st K V κ d (O₁ d) ∗ bB d -∗ runs d k Qp)) ⊢ runs d (barrier d k) Qp := by
  unfold barrier st bA bB runs
  iintro ⟨⟨#HE, ⟨%W, HO⟩⟩, ⟨Hat, HtY, HtX, Hc, HlY, HlX⟩, Hk⟩
  iapply (Rounds.wp_signal 𝒱₀ ER (sched K V) (d : Thread nD τ) none (dst := (yn d : Thread nD τ)) (sem := barS) (r := 0) (d := false)
      (κ := κ (br (yn d))) (by rw [duties_br]; exact Finset.mem_univ _) (amount_br K V (yn d) false) ()
      (O₁ d + tallyAt (br (xn d)) () 1) rfl) $$ [HO HtY HlY]
  · isplitr; · iapply (env_br K V κ (yn d)); iexact HE
    isplitl [HO]; · iexact HO
    isplitl [HtY]; · iexact HtY
    isplitl [HlY]; · iapply (Entails.of_eq (pay_brY K V (yn d)).symm); iexact HlY
    iapply (env_open K V κ (yn d)); iexact HE
  iintro HO
  iapply (Rounds.wp_signal 𝒱₀ ER (sched K V) (d : Thread nD τ) none (dst := (xn d : Thread nD τ)) (sem := barS) (r := 0) (d := true)
      (κ := κ (br (xn d))) (by rw [duties_br]; exact Finset.mem_univ _) (amount_br K V (xn d) true) ()
      (O₁ d) rfl) $$ [HO HtX HlX]
  · isplitr; · iapply (env_br K V κ (xn d)); iexact HE
    isplitl [HO]; · iexact HO
    isplitl [HtX]; · iexact HtX
    isplitl [HlX]; · iapply (Entails.of_eq (pay_brX K V (xn d)).symm); iexact HlX
    iapply (env_open K V κ (xn d)); iexact HE
  iintro HO
  iapply (Rounds.wp_wait_rest_token 𝒱₀ ER (sched K V) (d : Thread nD τ) none (κ := κ (br d))
      (wpE_semWait_eq 𝒱₀ (d : Thread nD τ) none Set.univ) (Set.mem_univ _) () (O := O₁ d) (W := W) (R := 0) (m := 0) (T := ∅)
      ((Nat.zero_add 2).trans (expect_br K V d).symm)) $$ [Hc HO Hat]
  · isplitr; · iapply (env_br K V κ d); iexact HE
    isplitl [Hc]; · iexact Hc
    isplitl [HO]; · iexact HO
    isplitr
    · iapply (mayWait d (.reg barS) 1 (O₁ d) (le_refl 1) (fun g u h => O₁_pos h))
      iapply (env_lev K V κ); iexact HE
    iexact Hat
  iintro ⟨HO, Hat, -, Hpay⟩
  ihave Hp := (Entails.of_eq (rest_br K V d)) $$ Hpay
  icases Hp with ⟨HlY, HlX⟩
  iapply Hk
  isplitl [HO]
  · isplitr; · iexact HE
    iexists _; iexact HO
  isplitl [Hat]; · iexact Hat
  isplitl [HlY]; · iexact HlY
  iexact HlX

/-! ## The relays -/

def rA (d : Dev nD) (i : Fin 8) : sProp 𝕄 :=
  iprop(cred (tallyAt (cl d 1 i) () NK) ∗ cred (tallyAt (cl d 3 i) () NK)
    ∗ atPos ER (cl d 1 i) 0 ∅ 0 ∗ atPos ER (cl d 3 i) 0 ∅ 0
    ∗ dutyTok ER (cl d 4 i) 0 false ∗ dutyTok ER (cl (xn d) 5 i) 0 false ∗ reached ER (cl d 4 i) 0
    ∗ lendX d i)
def rB (d : Dev nD) (i : Fin 8) : sProp 𝕄 :=
  iprop(cred (tallyAt (cl d 4 i) () NX) ∗ atPos ER (cl d 1 i) 1 ∅ 0 ∗ atPos ER (cl d 3 i) 1 ∅ 0
    ∗ (lR d ↦[cxS (hf d) i]{fullShare.left} rkvF K V d))

theorem cx_parts (h : Nat) (i : Fin 8) : ckS h i ∪ cvS h i = cxS h i := by
  ext x
  simp only [ckS, cvS, cxS, Finset.mem_union, Finset.mem_filter, Finset.mem_univ, true_and]
  constructor
  · rintro (⟨a, b, -⟩ | ⟨a, b, -⟩) <;> exact ⟨a, b⟩
  · rintro ⟨a, b⟩
    rcases Nat.lt_or_ge (x 2).val 1024 with c | c
    · exact .inl ⟨a, b, c⟩
    · exact .inr ⟨a, b, c⟩
theorem cx_disj (h : Nat) (i : Fin 8) : Disjoint (ckS h i) (cvS h i) := by
  rw [Finset.disjoint_left]
  intro x hx hy
  simp only [ckS, cvS, Finset.mem_filter, Finset.mem_univ, true_and] at hx hy
  omega

theorem relay_step (κ : GSem nD τ sig → ℕ) (d : Dev nD) (Qp : PUnit → sProp 𝕄) (i : Fin 8) (k : P F) :
    iprop(st K V κ d (fromSum i.val (tX d)) ∗ rA d i
        ∗ (st K V κ d (fromSum (i.val + 1) (tX d)) ∗ rB K V d i -∗ runs d k Qp))
      ⊢ runs d (relay d i k) Qp := by
  unfold relay recvK recvV sendX st rA rB lendX anyR runs
  iintro ⟨⟨#HE, ⟨%W, HO⟩⟩, ⟨Hc1, Hc3, Ha1, Ha3, Ht4, Ht5, #Hr4, ⟨%f, HX⟩, #Hr5⟩, Hk⟩
  iapply (Rounds.wp_wait_rest_token 𝒱₀ ER (sched K V) (d : Thread nD τ) none (κ := κ (cl d 1 i))
      (fun Kt => wait_K d i (ds 1 i) Kt) (Set.mem_univ _) () (O := fromSum i.val (tX d)) (W := W) (R := 0) (m := 0) (T := ∅)
      ((Nat.zero_add _).trans (expect_clK K V d 1 i (by decide)).symm)) $$ [Hc1 HO Ha1]
  · isplitr; · iapply (env_cl K V κ d 1 i); iexact HE
    isplitl [Hc1]; · iexact Hc1
    isplitl [HO]; · iexact HO
    isplitr
    · iapply (mayWait d (.dma (ds 1 i)) 2 _ (by rw [lv_cl]; decide) (fun g u h => tX_pos h))
      iapply (env_lev K V κ); iexact HE
    iexact Ha1
  iintro ⟨HO, Ha1, -, Hp1⟩
  ihave Hk1 := (Entails.of_eq ((rest_cl K V d 1 i).trans (show _ = iprop(lR d ↦[ckS (hf d) i]{fullShare} rkvF K V d) from rfl))) $$ Hp1
  iapply (Rounds.wp_wait_rest_token 𝒱₀ ER (sched K V) (d : Thread nD τ) none (κ := κ (cl d 3 i))
      (fun Kt => wait_V d i (ds 3 i) Kt) (Set.mem_univ _) () (O := fromSum i.val (tX d)) (R := 0) (m := 0) (T := ∅)
      ((Nat.zero_add _).trans (expect_clK K V d 3 i (by decide)).symm)) $$ [Hc3 HO Ha3]
  · isplitr; · iapply (env_cl K V κ d 3 i); iexact HE
    isplitl [Hc3]; · iexact Hc3
    isplitl [HO]; · iexact HO
    isplitr
    · iapply (mayWait d (.dma (ds 3 i)) 2 _ (by rw [lv_cl]; decide) (fun g u h => tX_pos h))
      iapply (env_lev K V κ); iexact HE
    iexact Ha3
  iintro ⟨HO, Ha3, -, Hp3⟩
  ihave Hk3 := (Entails.of_eq ((rest_cl K V d 3 i).trans (show _ = iprop(lR d ↦[cvS (hf d) i]{fullShare} rkvF K V d) from rfl))) $$ Hp3
  have hj : iprop((lR d ↦[ckS (hf d) i]{fullShare} rkvF K V d) ∗ (lR d ↦[cvS (hf d) i]{fullShare} rkvF K V d))
      ⊢ (iprop((lR d ↦[cxS (hf d) i]{fullShare.left} rkvF K V d) ∗ (lR d ↦[cxS (hf d) i]{fullShare.right} rkvF K V d)) : sProp 𝕄) := by
    rw [← cx_parts]
    exact ((pointsTo_union (cx_disj _ _)).2).trans ((pointsTo_share (PosShare.mem_left_op_right fullShare)).1)
  ihave Hb := hj $$ [Hk1 Hk3]
  · isplitl [Hk1]; · iexact Hk1
    iexact Hk3
  icases Hb with ⟨Hl, Hr⟩
  iapply (Rounds.wp_send_pointsTo 𝒱₀ ER (sched K V) (d : Thread nD τ) none (c' := (xn d : Thread nD τ))
      (src := cRx d i) (dst := cRx d i)
      (sS := .dma (ds 4 i)) (sem := .dma (ds 5 i)) (q := fullShare.right) (fs := rkvF K V d)
      (κ₁ := κ (cl d 4 i)) (κ₂ := κ (cl (xn d) 5 i))
      (r₁ := 0) (r₂ := 0) (d₁ := false) (d₂ := false) (fd := f)
      (by rw [duties_cl]; exact Finset.mem_singleton_self _) (by rw [duties_cl]; exact Finset.mem_singleton_self _)
      () () NX rfl (amount_clX K V d 4 i _ (by decide)) (amount_clX K V (xn d) 5 i _ (by decide))
      (fromSum (i.val + 1) (tX d)) (fromSum_step (tX d) i)
      (Entails.of_eq ((dst_X d d i _ _).trans (payload_cl K V d 4 i false).symm))
      (Entails.of_eq (pay_X K V d i f))) $$ [Hr HX HO Ht4 Ht5]
  · isplitr; · iapply (env_cl K V κ d 4 i); iexact HE
    isplitr; · iapply (env_cl K V κ (xn d) 5 i); iexact HE
    isplitl [Hr]; · iapply (Entails.of_eq (dst_X d d i _ _).symm); iexact Hr
    isplitl [HX]; · iapply (Entails.of_eq (dst_X (xn d) d i _ _).symm); iexact HX
    isplitl [HO]; · iexact HO
    isplitl [Ht4]; · iexact Ht4
    isplitr; · iexact Hr4
    isplitl [Ht5]; · iexact Ht5
    iexact Hr5
  iintro ⟨Hc4, HO⟩
  iapply Hk
  isplitl [HO]
  · isplitr; · iexact HE
    iexists _; iexact HO
  isplitl [Hc4]; · iexact Hc4
  isplitl [Ha1]; · iexact Ha1
  isplitl [Ha3]; · iexact Ha3
  iexact Hl

/-! ## The waits for the own sends, and for the replica -/

def sA (d : Dev nD) (i : Fin 8) : sProp 𝕄 :=
  iprop((cred (tallyAt (cl d 0 i) () NK) ∗ cred (tallyAt (cl d 2 i) () NK))
    ∗ atPos ER (cl d 0 i) 0 ∅ 0 ∗ atPos ER (cl d 2 i) 0 ∅ 0)
def sB (d : Dev nD) (i : Fin 8) : sProp 𝕄 :=
  iprop(atPos ER (cl d 0 i) 1 ∅ 0 ∗ atPos ER (cl d 2 i) 1 ∅ 0
    ∗ (lK d ↦[kvS (hf d) i]{fullShare.right} K d) ∗ (lV d ↦[kvS (hf d) i]{fullShare.right} V d))

theorem sent_step (κ : GSem nD τ sig → ℕ) (d : Dev nD) (Qp : PUnit → sProp 𝕄) (i : Fin 8) (k : P F) :
    iprop(st K V κ d 0 ∗ sA d i ∗ (st K V κ d 0 ∗ sB K V d i -∗ runs d k Qp))
      ⊢ runs d (sentK d i (sentV d i k)) Qp := by
  unfold sentK sentV st sA sB runs
  iintro ⟨⟨#HE, ⟨%W, HO⟩⟩, ⟨⟨Hc0, Hc2⟩, Ha0, Ha2⟩, Hk⟩
  iapply (Rounds.wp_wait_rest_token 𝒱₀ ER (sched K V) (d : Thread nD τ) none (κ := κ (cl d 0 i))
      (fun Kt => wait_K' d i (ds 0 i) Kt) (Set.mem_univ _) () (O := 0) (W := W) (R := 0) (m := 0) (T := ∅)
      ((Nat.zero_add _).trans (expect_clK K V d 0 i (by decide)).symm)) $$ [Hc0 HO Ha0]
  · isplitr; · iapply (env_cl K V κ d 0 i); iexact HE
    isplitl [Hc0]; · iexact Hc0
    isplitl [HO]; · iexact HO
    isplitr; · rw [MayWait_zero]; iempintro
    iexact Ha0
  iintro ⟨HO, Ha0, -, Hp0⟩
  ihave Hk0 := (Entails.of_eq ((rest_cl K V d 0 i).trans (show _ = iprop(lK d ↦[kvS (hf d) i]{fullShare.right} K d) from rfl))) $$ Hp0
  iapply (Rounds.wp_wait_rest_token 𝒱₀ ER (sched K V) (d : Thread nD τ) none (κ := κ (cl d 2 i))
      (fun Kt => wait_V' d i (ds 2 i) Kt) (Set.mem_univ _) () (O := 0) (R := 0) (m := 0) (T := ∅)
      ((Nat.zero_add _).trans (expect_clK K V d 2 i (by decide)).symm)) $$ [Hc2 HO Ha2]
  · isplitr; · iapply (env_cl K V κ d 2 i); iexact HE
    isplitl [Hc2]; · iexact Hc2
    isplitl [HO]; · iexact HO
    isplitr; · rw [MayWait_zero]; iempintro
    iexact Ha2
  iintro ⟨HO, Ha2, -, Hp2⟩
  ihave Hk2 := (Entails.of_eq ((rest_cl K V d 2 i).trans (show _ = iprop(lV d ↦[kvS (hf d) i]{fullShare.right} V d) from rfl))) $$ Hp2
  iapply Hk
  isplitl [HO]
  · isplitr; · iexact HE
    iexists _; iexact HO
  isplitl [Ha0]; · iexact Ha0
  isplitl [Ha2]; · iexact Ha2
  isplitl [Hk0]; · iexact Hk0
  iexact Hk2

def xA (d : Dev nD) (i : Fin 8) : sProp 𝕄 :=
  iprop(cred (tallyAt (cl d 4 i) () NX) ∗ cred (tallyAt (cl d 5 i) () NX)
    ∗ atPos ER (cl d 4 i) 0 ∅ 0 ∗ atPos ER (cl d 5 i) 0 ∅ 0)
def xB (d : Dev nD) (i : Fin 8) : sProp 𝕄 :=
  iprop(atPos ER (cl d 4 i) 1 ∅ 0 ∗ atPos ER (cl d 5 i) 1 ∅ 0
    ∗ (lR d ↦[cxS (hf d) i]{fullShare.right} rkvF K V d) ∗ (lR d ↦[cxS (1 - hf d) i]{fullShare} rkvF K V d))

theorem x_step (κ : GSem nD τ sig → ℕ) (d : Dev nD) (Qp : PUnit → sProp 𝕄) (i : Fin 8) (k : P F) :
    iprop(st K V κ d 0 ∗ xA d i ∗ (st K V κ d 0 ∗ xB K V d i -∗ runs d k Qp))
      ⊢ runs d (waitX 4 d i (waitX 5 d i k)) Qp := by
  unfold waitX st xA xB runs
  iintro ⟨⟨#HE, ⟨%W, HO⟩⟩, ⟨Hc4, Hc5, Ha4, Ha5⟩, Hk⟩
  iapply (Rounds.wp_wait_rest_token 𝒱₀ ER (sched K V) (d : Thread nD τ) none (κ := κ (cl d 4 i))
      (fun Kt => wait_X d i (ds 4 i) Kt) (Set.mem_univ _) () (O := 0) (W := W) (R := 0) (m := 0) (T := ∅)
      ((Nat.zero_add _).trans (expect_clX K V d 4 i (by decide)).symm)) $$ [Hc4 HO Ha4]
  · isplitr; · iapply (env_cl K V κ d 4 i); iexact HE
    isplitl [Hc4]; · iexact Hc4
    isplitl [HO]; · iexact HO
    isplitr; · rw [MayWait_zero]; iempintro
    iexact Ha4
  iintro ⟨HO, Ha4, -, Hp4⟩
  ihave Hk4 := (Entails.of_eq ((rest_cl K V d 4 i).trans (show _ = iprop(lR d ↦[cxS (hf d) i]{fullShare.right} rkvF K V d) from rfl))) $$ Hp4
  iapply (Rounds.wp_wait_rest_token 𝒱₀ ER (sched K V) (d : Thread nD τ) none (κ := κ (cl d 5 i))
      (fun Kt => wait_X d i (ds 5 i) Kt) (Set.mem_univ _) () (O := 0) (R := 0) (m := 0) (T := ∅)
      ((Nat.zero_add _).trans (expect_clX K V d 5 i (by decide)).symm)) $$ [Hc5 HO Ha5]
  · isplitr; · iapply (env_cl K V κ d 5 i); iexact HE
    isplitl [Hc5]; · iexact Hc5
    isplitl [HO]; · iexact HO
    isplitr; · rw [MayWait_zero]; iempintro
    iexact Ha5
  iintro ⟨HO, Ha5, -, Hp5⟩
  ihave Hk5 := (Entails.of_eq ((rest_cl K V d 5 i).trans (show _ = iprop(lR d ↦[cxS (1 - hf d) i]{fullShare} rkvF K V d) from rfl))) $$ Hp5
  iapply Hk
  isplitl [HO]
  · isplitr; · iexact HE
    iexists _; iexact HO
  isplitl [Ha4]; · iexact Ha4
  isplitl [Ha5]; · iexact Ha5
  isplitl [Hk4]; · iexact Hk4
  iexact Hk5

end

end Cert.KernelIdeal.Attn
-- ==== Proof.Run.lean ====
module

public import proofs.«01_k».proof.Proof.Comm

/-!
# The run of the body

From what a device holds at the start to what it holds at the end.
-/

@[expose] public section

open Idealize.ShloMosaic Idealize.ShloMosaic.TcCoe
open Idealize.SL
open Idealize.SL.BI (sProp bigSep bigSep_sep' bigSep_singleton bigSep_insert)
open scoped Idealize.SL.BI
open Idealize.SL.BI.BIBase Idealize.SL.BI.Laws Idealize.SL.ProofMode Idealize.SL.Sem
open Idealize.SL.RA
open Idealize.ShloMosaic.Rounds
open Cert.KernelIdeal Cert.KernelIdeal.Gen

set_option synthInstance.maxSize 4096

noncomputable section

namespace Cert.KernelIdeal.Attn

variable {F : FTy → Type} [FloatOps F] [Named F]

local notation "𝕄" => MT nD τ sig Unit (Elt F) ℕ UU ℕ

/-! ## Halves of eight, and parts put together -/

theorem half8 (Φ : Fin 8 → sProp 𝕄) :
    bigSep Finset.univ Φ = iprop(bigSep Finset.univ (fun c : Fin 4 => Φ ⟨c.val, by omega⟩)
      ∗ bigSep Finset.univ (fun c : Fin 4 => Φ ⟨4 + c.val, by omega⟩)) := by
  rw [BI.bigSep_univ_equiv (finSumFinEquiv (m := 4) (n := 4)) Φ, BI.bigSep_univ_sum]
  rfl

theorem kv_disj (h : Nat) : ∀ i ∈ (Finset.univ : Finset (Fin 8)), ∀ j ∈ (Finset.univ : Finset (Fin 8)), i ≠ j →
    Disjoint (kvS h i) (kvS h j) := by
  intro i _ j _ hij
  rw [Finset.disjoint_left]
  intro x hx hy
  simp only [kvS, Finset.mem_filter, Finset.mem_univ, true_and] at hx hy
  exact hij (Fin.ext (by omega))

theorem cx_disj' (h : Nat) (n : Nat) (hn : n < 2) : ∀ i ∈ (Finset.univ : Finset (Fin 4)), ∀ j ∈ (Finset.univ : Finset (Fin 4)), i ≠ j →
    Disjoint (cxS h ⟨4 * n + i.val, by omega⟩) (cxS h ⟨4 * n + j.val, by omega⟩) := by
  intro i _ j _ hij
  rw [Finset.disjoint_left]
  intro x hx hy
  simp only [cxS, Finset.mem_filter, Finset.mem_univ, true_and] at hx hy
  exact hij (Fin.ext (by omega))

theorem cx_batch (d : Dev nD) (j : Fin 4) (h : Nat) (n : Nat) (hn : n < 2) (hj : stW d j = 2 * h + n) :
    (Finset.univ : Finset (Fin 4)).biUnion (fun c => cxS h ⟨4 * n + c.val, by omega⟩) = bs d j := by
  ext x
  have h1 : (x 1).val < 256 := (x 1).isLt
  simp only [cxS, bs, Finset.mem_biUnion, Finset.mem_filter, Finset.mem_univ, true_and]
  constructor
  · rintro ⟨c, hc, -⟩
    omega
  · intro hx
    exact ⟨⟨(x 1).val / 64, by omega⟩, by dsimp only; omega⟩

section
variable (Q K V : Dev nD → S4x256x1024.Idx → Elt F .bf16)

/-- Four chunks of one batch are the batch. -/
theorem join_batch (d : Dev nD) (j : Fin 4) (h : Nat) (n : Nat) (hn : n < 2) (hj : stW d j = 2 * h + n) (q : PosShare TreeShare) :
    bigSep Finset.univ (fun c : Fin 4 => (iprop(lR d ↦[cxS h ⟨4 * n + c.val, by omega⟩]{q} rkvF K V d) : sProp 𝕄))
      = got K V d j q := by
  unfold got
  rw [← cx_batch d j h n hn hj]
  exact (pointsTo_biUnion Finset.univ _ (cx_disj' h n hn)).symm

theorem stW_0 : ∀ d : Dev nD, stW d 0 = 2 * hf d + 0 := by decide +kernel
theorem stW_1 : ∀ d : Dev nD, stW d 1 = 2 * hf d + 1 := by decide +kernel
theorem stW_2 : ∀ d : Dev nD, stW d 2 = 2 * (1 - hf d) + 0 := by decide +kernel
theorem stW_3 : ∀ d : Dev nD, stW d 3 = 2 * (1 - hf d) + 1 := by decide +kernel
theorem stW_lt (d : Dev nD) (j : Fin 4) : stW d j < 4 := by rw [stW_eq]; omega

/-- Eight chunks are two batches. -/
theorem join_half (d : Dev nD) (q : PosShare TreeShare) :
    bigSep Finset.univ (fun i : Fin 8 => (iprop(lR d ↦[cxS (hf d) i]{q} rkvF K V d) : sProp 𝕄))
      = iprop(got K V d 0 q ∗ got K V d 1 q) := by
  rw [half8, ← join_batch K V d 0 (hf d) 0 (by decide) (stW_0 d) q, ← join_batch K V d 1 (hf d) 1 (by decide) (stW_1 d) q]
  simp only [Nat.mul_zero, Nat.zero_add, Nat.mul_one]
theorem join_other (d : Dev nD) (q : PosShare TreeShare) :
    bigSep Finset.univ (fun i : Fin 8 => (iprop(lR d ↦[cxS (1 - hf d) i]{q} rkvF K V d) : sProp 𝕄))
      = iprop(got K V d 2 q ∗ got K V d 3 q) := by
  rw [half8, ← join_batch K V d 2 (1 - hf d) 0 (by decide) (stW_2 d) q, ← join_batch K V d 3 (1 - hf d) 1 (by decide) (stW_3 d) q]
  simp only [Nat.mul_zero, Nat.zero_add, Nat.mul_one]

theorem bs_disj (d : Dev nD) : ∀ i ∈ (Finset.univ : Finset (Fin 4)), ∀ j ∈ (Finset.univ : Finset (Fin 4)), i ≠ j →
    Disjoint (bs d i) (bs d j) := by
  intro i _ j _ hij
  rw [Finset.disjoint_left]
  intro x hx hy
  have h1 := stW_eq d i
  have h2 := stW_eq d j
  simp only [bs, Finset.mem_filter, Finset.mem_univ, true_and] at hx hy
  exact hij (Fin.ext (by omega))
theorem bs_all (d : Dev nD) : (Finset.univ : Finset (Fin 4)).biUnion (bs d) = Finset.univ := by
  ext x
  have h0 : (x 0).val < 4 := (x 0).isLt
  have h3 := hf_lt d
  simp only [bs, Finset.mem_biUnion, Finset.mem_filter, Finset.mem_univ, true_and, iff_true]
  refine ⟨⟨((x 0).val + 4 - 2 * hf d) % 4, by omega⟩, ?_⟩
  rw [stW_eq]
  dsimp only
  omega

/-- The four batches are the receive buffer. -/
theorem join_all (d : Dev nD) :
    (iprop(got K V d 0 fullShare ∗ got K V d 1 fullShare ∗ got K V d 2 fullShare ∗ got K V d 3 fullShare) : sProp 𝕄)
      ⊢ iprop(lR d ↦[Finset.univ]{fullShare} rkvF K V d) := by
  have h : (iprop(lR d ↦[Finset.univ]{fullShare} rkvF K V d) : sProp 𝕄)
      = bigSep Finset.univ fun j : Fin 4 => got K V d j fullShare := by
    rw [← bs_all d]
    exact pointsTo_biUnion Finset.univ _ (bs_disj d)
  rw [h, bigSep_succ, bigSep_succ, bigSep_succ, bigSep_succ, Finset.univ_eq_empty (α := Fin 0), BI.bigSep_empty]
  iintro ⟨H0, H1, H2, H3⟩
  isplitl [H0]; · iexact H0
  isplitl [H1]; · iexact H1
  isplitl [H2]; · iexact H2
  isplitl [H3]; · iexact H3
  iempintro

/-! ## Loops without a family -/

theorem runs_loop (d : Dev nD) (Qp : PUnit → sProp 𝕄) {n : Nat} (f : Fin n → P F → P F) (S : Nat → sProp 𝕄)
    (step : ∀ (i : Fin n) (K : P F), iprop(S i.val ∗ (S (i.val + 1) -∗ runs d K Qp)) ⊢ runs d (f i K) Qp) (k : P F) :
    iprop(S 0 ∗ (S n -∗ runs d k Qp)) ⊢ runs d (rep n f k) Qp := by
  have he : bigSep Finset.univ (fun _ : Fin n => (iprop(emp) : sProp 𝕄)) = iprop(emp) := BI.bigSep_emp_const _
  iintro ⟨HS, Hk⟩
  iapply (runs_rep d Qp f S (fun _ => iprop(emp)) (fun _ => iprop(emp)) (fun i K => by
    iintro ⟨HS, -, Hk⟩
    iapply (step i K)
    isplitl [HS]; · iexact HS
    iintro HS
    iapply Hk
    isplitl [HS]; · iexact HS
    iempintro) k)
  rw [he]
  isplitl [HS]; · iexact HS
  isplitr; · iempintro
  iintro ⟨HS, -⟩
  iapply Hk
  iexact HS

/-- Four blocks of the own part. -/
theorem own4_step (d : Dev nD) (Qp : PUnit → sProp 𝕄) (i : Fin 8) (k : P F) :
    iprop(inp Q K V d ∗ accSt Q K V d (4 * i.val) ∗ (inp Q K V d ∗ accSt Q K V d (4 * i.val + 4) -∗ runs d k Qp))
      ⊢ runs d (own4 i k) Qp := by
  unfold own4
  iintro ⟨HI, HA, Hk⟩
  iapply (runs_loop d Qp _ (fun j => iprop(inp Q K V d ∗ accSt Q K V d (4 * i.val + j))) (fun j K' => by
    have hj : 4 * i.val + j.val < 32 := by omega
    iintro ⟨⟨HI, HA⟩, Hk⟩
    iapply (loc_step Q K V d Qp ⟨4 * i.val + j.val, hj⟩ K')
    isplitl [HI]; · iexact HI
    isplitl [HA]; · iexact HA
    iexact Hk) k)
  isplitl [HI HA]
  · isplitl [HI]; · iexact HI
    iexact HA
  iexact Hk

/-- The head pairs of one batch. -/
theorem rem8_step (d : Dev nD) (Qp : PUnit → sProp 𝕄) (j : Fin 4) (q : PosShare TreeShare) (k : P F) :
    iprop((inp Q K V d ∗ got K V d j q ∗ accSt Q K V d 32 ∗ outSt Q K V d (8 * j.val))
        ∗ ((inp Q K V d ∗ got K V d j q ∗ accSt Q K V d 32 ∗ outSt Q K V d (8 * j.val + 8)) -∗ runs d k Qp))
      ⊢ runs d (rep 8 (fun h => remB d j h) k) Qp := by
  refine runs_loop d Qp _ (fun n => iprop(inp Q K V d ∗ got K V d j q ∗ accSt Q K V d 32 ∗ outSt Q K V d (8 * j.val + n))) (fun h K' => ?_) k
  exact rem_step Q K V d Qp j h q 32 (by have := stW_lt d j; omega) (8 * j.val + h.val) rfl K'

/-! ## The phases -/

/-- The first half: own blocks, receives and relays. -/
theorem phase2 (κ : GSem nD τ sig → ℕ) (d : Dev nD) (Qp : PUnit → sProp 𝕄) (k : P F) :
    iprop((st K V κ d (fromSum 0 (tX d)) ∗ inp Q K V d ∗ accSt Q K V d 0)
        ∗ bigSep Finset.univ (fun c : Fin 4 => rA d ⟨c.val, by omega⟩)
        ∗ ((st K V κ d (fromSum 4 (tX d)) ∗ inp Q K V d ∗ accSt Q K V d 16)
            ∗ bigSep Finset.univ (fun c : Fin 4 => rB K V d ⟨c.val, by omega⟩) -∗ runs d k Qp))
      ⊢ runs d (rep 4 (fun c K => own4 ⟨c.val, by omega⟩ (relay d ⟨c.val, by omega⟩ K)) k) Qp := by
  refine runs_rep d Qp _ (fun n => iprop(st K V κ d (fromSum n (tX d)) ∗ inp Q K V d ∗ accSt Q K V d (4 * n))) _ _ (fun c K' => ?_) k
  have hc : c.val < 8 := by omega
  iintro ⟨⟨HS, HI, HA⟩, Hr, Hk⟩
  iapply (own4_step Q K V d Qp ⟨c.val, hc⟩ _)
  isplitl [HI]; · iexact HI
  isplitl [HA]; · iexact HA
  iintro ⟨HI, HA⟩
  iapply (relay_step K V κ d Qp ⟨c.val, hc⟩ K')
  isplitl [HS]; · iexact HS
  isplitl [Hr]; · iexact Hr
  iintro ⟨HS, Hr⟩
  iapply Hk
  isplitl [HS HI HA]
  · isplitl [HS]; · iexact HS
    isplitl [HI]; · iexact HI
    iexact HA
  iexact Hr

/-- The second half, finishing the first batch along the way. -/
theorem phase3 (κ : GSem nD τ sig → ℕ) (d : Dev nD) (Qp : PUnit → sProp 𝕄) (q : PosShare TreeShare) (k : P F) :
    iprop((st K V κ d (fromSum 4 (tX d)) ∗ inp Q K V d ∗ got K V d 0 q ∗ accSt Q K V d 16 ∗ outSt Q K V d 0)
        ∗ bigSep Finset.univ (fun c : Fin 4 => rA d ⟨4 + c.val, by omega⟩)
        ∗ ((st K V κ d (fromSum 8 (tX d)) ∗ inp Q K V d ∗ got K V d 0 q ∗ accSt Q K V d 32 ∗ outSt Q K V d 8)
            ∗ bigSep Finset.univ (fun c : Fin 4 => rB K V d ⟨4 + c.val, by omega⟩) -∗ runs d k Qp))
      ⊢ runs d (rep 4 (fun c K => own4 ⟨4 + c.val, by omega⟩
          (remB d 0 ⟨2 * c.val, by omega⟩ (remB d 0 ⟨2 * c.val + 1, by omega⟩ (relay d ⟨4 + c.val, by omega⟩ K)))) k) Qp := by
  refine runs_rep d Qp _ (fun n => iprop(st K V κ d (fromSum (4 + n) (tX d)) ∗ inp Q K V d ∗ got K V d 0 q
    ∗ accSt Q K V d (16 + 4 * n) ∗ outSt Q K V d (2 * n))) _ _ (fun c K' => ?_) k
  have hs := stW_0 d
  have hh := hf_lt d
  have hc : 4 + c.val < 8 := by omega
  have h0 : 2 * c.val < 8 := by omega
  have h1 : 2 * c.val + 1 < 8 := by omega
  have hm0 : 8 * stW d 0 + 2 * c.val < 4 * (4 + c.val) + 4 := by omega
  have hm1 : 8 * stW d 0 + (2 * c.val + 1) < 4 * (4 + c.val) + 4 := by omega
  have e1 : 16 + 4 * c.val = 4 * (4 + c.val) := by omega
  have e2 : 16 + 4 * (c.val + 1) = 4 * (4 + c.val) + 4 := by omega
  have e3 : 2 * (c.val + 1) = 2 * c.val + 1 + 1 := by omega
  rw [e1, e2, e3]
  iintro ⟨⟨HS, HI, HG, HA, HO⟩, Hr, Hk⟩
  iapply (own4_step Q K V d Qp ⟨4 + c.val, hc⟩ _)
  isplitl [HI]; · iexact HI
  isplitl [HA]; · iexact HA
  iintro ⟨HI, HA⟩
  iapply (rem_step Q K V d Qp 0 ⟨2 * c.val, h0⟩ q (4 * (4 + c.val) + 4) hm0 (2 * c.val) (Nat.zero_add _).symm _)
  isplitl [HI HG HA HO]
  · isplitl [HI]; · iexact HI
    isplitl [HG]; · iexact HG
    isplitl [HA]; · iexact HA
    iexact HO
  iintro ⟨HI, HG, HA, HO⟩
  iapply (rem_step Q K V d Qp 0 ⟨2 * c.val + 1, h1⟩ q (4 * (4 + c.val) + 4) hm1 (2 * c.val + 1) (Nat.zero_add _).symm _)
  isplitl [HI HG HA HO]
  · isplitl [HI]; · iexact HI
    isplitl [HG]; · iexact HG
    isplitl [HA]; · iexact HA
    iexact HO
  iintro ⟨HI, HG, HA, HO⟩
  iapply (relay_step K V κ d Qp ⟨4 + c.val, hc⟩ K')
  isplitl [HS]; · iexact HS
  isplitl [Hr]; · iexact Hr
  iintro ⟨HS, Hr⟩
  iapply Hk
  isplitl [HS HI HG HA HO]
  · isplitl [HS]; · iexact HS
    isplitl [HI]; · iexact HI
    isplitl [HG]; · iexact HG
    isplitl [HA]; · iexact HA
    iexact HO
  iexact Hr

/-! ## Taking the buffers apart -/

theorem cx_disj8 (h : Nat) : ∀ i ∈ (Finset.univ : Finset (Fin 8)), ∀ j ∈ (Finset.univ : Finset (Fin 8)), i ≠ j →
    Disjoint (cxS h i) (cxS h j) := by
  intro i _ j _ hij
  rw [Finset.disjoint_left]
  intro x hx hy
  simp only [cxS, Finset.mem_filter, Finset.mem_univ, true_and] at hx hy
  exact hij (Fin.ext (by omega))

theorem cx_halves (d : Dev nD) :
    (Finset.univ : Finset (Fin 8)).biUnion (cxS (hf d)) ∪ (Finset.univ : Finset (Fin 8)).biUnion (cxS (1 - hf d)) = Finset.univ := by
  ext x
  have h0 : (x 0).val < 4 := (x 0).isLt
  have h1 : (x 1).val < 256 := (x 1).isLt
  have h2 := hf_lt d
  simp only [cxS, Finset.mem_union, Finset.mem_biUnion, Finset.mem_filter, Finset.mem_univ, true_and, iff_true]
  rcases Nat.lt_or_ge ((x 0).val) 2 with c | c <;> rcases Nat.lt_or_ge (hf d) 1 with e | e
  · exact .inl ⟨⟨4 * ((x 0).val % 2) + (x 1).val / 64, by omega⟩, by dsimp only; omega⟩
  · exact .inr ⟨⟨4 * ((x 0).val % 2) + (x 1).val / 64, by omega⟩, by dsimp only; omega⟩
  · exact .inr ⟨⟨4 * ((x 0).val % 2) + (x 1).val / 64, by omega⟩, by dsimp only; omega⟩
  · exact .inl ⟨⟨4 * ((x 0).val % 2) + (x 1).val / 64, by omega⟩, by dsimp only; omega⟩

theorem cx_halves_disj (d : Dev nD) :
    Disjoint ((Finset.univ : Finset (Fin 8)).biUnion (cxS (hf d))) ((Finset.univ : Finset (Fin 8)).biUnion (cxS (1 - hf d))) := by
  rw [Finset.disjoint_left]
  intro x hx hy
  have h2 := hf_lt d
  simp only [cxS, Finset.mem_biUnion, Finset.mem_filter, Finset.mem_univ, true_and] at hx hy
  obtain ⟨i, hi, -⟩ := hx
  obtain ⟨j, hj, -⟩ := hy
  omega

/-- The receive buffer in the pieces that are lent. -/
theorem split_R (d : Dev nD) :
    (iprop(∃ f, lR d ↦[Finset.univ]{fullShare} f) : sProp 𝕄)
      ⊢ iprop(bigSep Finset.univ (fun i : Fin 8 => (iprop(anyR d (ckS (hf d) i) ∗ anyR d (cvS (hf d) i)) : sProp 𝕄))
          ∗ bigSep Finset.univ (fun i : Fin 8 => (anyR d (cxS (1 - hf d) i) : sProp 𝕄))) := by
  iintro ⟨%f, HR⟩
  have h := (Entails.of_eq (congrArg (fun S => (iprop(lR d ↦[S]{fullShare} f) : sProp 𝕄)) (cx_halves d).symm)).trans
    ((pointsTo_union (cx_halves_disj d)).1)
  ihave HR := h $$ HR
  icases HR with ⟨H1, H2⟩
  isplitl [H1]
  · iapply ((Entails.of_eq (pointsTo_biUnion Finset.univ _ (cx_disj8 (hf d)))).trans (BI.bigSep_mono fun i _ => ?_)) $$ H1
    unfold anyR
    rw [← cx_parts]
    refine ((pointsTo_union (cx_disj _ _)).1).trans ?_
    iintro ⟨Ha, Hb⟩
    isplitl [Ha]
    · iexists f; iexact Ha
    iexists f; iexact Hb
  iapply ((Entails.of_eq (pointsTo_biUnion Finset.univ _ (cx_disj8 (1 - hf d)))).trans (BI.bigSep_mono fun i _ => ?_)) $$ H2
  refine show (_ : sProp 𝕄) ⊢ _ from ?_
  unfold anyR
  iintro Ha
  iexists f; iexact Ha

theorem eq_of {A B : sProp 𝕄} (h : A ⊣⊢ B) : A = B := BI.equiv_iff.mp ⟨h.1, h.2⟩

/-- The chunks of the half that is sent. -/
abbrev kvU (d : Dev nD) : Finset S4x256x1024.Idx := (Finset.univ : Finset (Fin 8)).biUnion (kvS (hf d))

/-- A buffer at the half share in the chunks that are sent, and the rest. -/
theorem split_K (d : Dev nD) :
    (iprop(lK d ↦[Finset.univ]{fullShare} K d) : sProp 𝕄)
      = iprop((lK d ↦[Finset.univ]{fullShare.left} K d)
          ∗ bigSep Finset.univ (fun i : Fin 8 => (iprop(lK d ↦[kvS (hf d) i]{fullShare.right} K d) : sProp 𝕄))
          ∗ (lK d ↦[Finset.univ \ kvU d]{fullShare.right} K d)) := by
  rw [← pointsTo_biUnion Finset.univ _ (kv_disj (hf d)), ← eq_of (pointsTo_split_subset (Finset.subset_univ (kvU d)))]
  exact eq_of (pointsTo_share (PosShare.mem_left_op_right fullShare))
theorem split_V (d : Dev nD) :
    (iprop(lV d ↦[Finset.univ]{fullShare} V d) : sProp 𝕄)
      = iprop((lV d ↦[Finset.univ]{fullShare.left} V d)
          ∗ bigSep Finset.univ (fun i : Fin 8 => (iprop(lV d ↦[kvS (hf d) i]{fullShare.right} V d) : sProp 𝕄))
          ∗ (lV d ↦[Finset.univ \ kvU d]{fullShare.right} V d)) := by
  rw [← pointsTo_biUnion Finset.univ _ (kv_disj (hf d)), ← eq_of (pointsTo_split_subset (Finset.subset_univ (kvU d)))]
  exact eq_of (pointsTo_share (PosShare.mem_left_op_right fullShare))

theorem join_share (d : Dev nD) (j : Fin 4) :
    (iprop(got K V d j fullShare.left ∗ got K V d j fullShare.right) : sProp 𝕄) ⊢ got K V d j fullShare :=
  (pointsTo_share (PosShare.mem_left_op_right fullShare)).2

/-! ## What the run starts with -/

/-- Duties and credits of chunk `i`. -/
def tok (d : Dev nD) (i : Fin 8) : sProp 𝕄 :=
  iprop((dutyTok ER (cl d 0 i) 0 false ∗ dutyTok ER (cl (yn d) 1 i) 0 false
      ∗ dutyTok ER (cl d 2 i) 0 false ∗ dutyTok ER (cl (yn d) 3 i) 0 false
      ∗ dutyTok ER (cl d 4 i) 0 false ∗ dutyTok ER (cl (xn d) 5 i) 0 false)
    ∗ cred (tallyAt (cl d 1 i) () NK) ∗ cred (tallyAt (cl d 3 i) () NK) ∗ cred (tallyAt (cl d 5 i) () NX))

/-- The six cells of chunk `i`, each with `n` rounds behind it. -/
def pos (d : Dev nD) (n : Nat) (i : Fin 8) : sProp 𝕄 :=
  iprop(atPos ER (cl d 0 i) n ∅ 0 ∗ atPos ER (cl d 1 i) n ∅ 0 ∗ atPos ER (cl d 2 i) n ∅ 0
    ∗ atPos ER (cl d 3 i) n ∅ 0 ∗ atPos ER (cl d 4 i) n ∅ 0 ∗ atPos ER (cl d 5 i) n ∅ 0)

/-- The six cells of chunk `i` are open. -/
def opn (d : Dev nD) (i : Fin 8) : sProp 𝕄 :=
  iprop(reached ER (cl d 0 i) 0 ∗ reached ER (cl d 1 i) 0 ∗ reached ER (cl d 2 i) 0
    ∗ reached ER (cl d 3 i) 0 ∗ reached ER (cl d 4 i) 0 ∗ reached ER (cl d 5 i) 0)

/-- The barrier's part. -/
def barA (d : Dev nD) : sProp 𝕄 :=
  iprop(atPos ER (br d) 0 ∅ 0 ∗ dutyTok ER (br (yn d)) 0 false ∗ dutyTok ER (br (xn d)) 0 true
    ∗ cred (tallyAt (br d) () 2))

def runPre (κ : GSem nD τ sig → ℕ) (d : Dev nD) : sProp 𝕄 :=
  iprop(st K V κ d (O₀ d) ∗ barA d ∗ bigSep Finset.univ (tok d) ∗ bigSep Finset.univ (pos d 0) ∗ bigSep Finset.univ (opn d)
    ∗ (lQ d ↦[Finset.univ]{fullShare} Q d) ∗ (lK d ↦[Finset.univ]{fullShare} K d) ∗ (lV d ↦[Finset.univ]{fullShare} V d)
    ∗ (∃ f, lR d ↦[Finset.univ]{fullShare} f) ∗ (∃ f, lA d ↦[Finset.univ]{fullShare} f) ∗ (∃ f, lO d ↦[Finset.univ]{fullShare} f))

def runPost (κ : GSem nD τ sig → ℕ) (d : Dev nD) : sProp 𝕄 :=
  iprop(st K V κ d 0 ∗ atPos ER (br d) 1 ∅ 0 ∗ bigSep Finset.univ (pos d 1)
    ∗ (lQ d ↦[Finset.univ]{fullShare} Q d) ∗ (lK d ↦[Finset.univ]{fullShare} K d) ∗ (lV d ↦[Finset.univ]{fullShare} V d)
    ∗ (∃ f, lR d ↦[Finset.univ]{fullShare} f) ∗ (∃ f, lA d ↦[Finset.univ]{fullShare} f) ∗ (lO d ↦[Finset.univ]{fullShare} outF Q K V d))

/-- A chunk's part of the sends, without what the neighbour lends. -/
def yA0 (d : Dev nD) (i : Fin 8) : sProp 𝕄 :=
  iprop(dutyTok ER (cl d 0 i) 0 false ∗ dutyTok ER (cl (yn d) 1 i) 0 false
    ∗ dutyTok ER (cl d 2 i) 0 false ∗ dutyTok ER (cl (yn d) 3 i) 0 false
    ∗ reached ER (cl d 0 i) 0 ∗ reached ER (cl d 2 i) 0
    ∗ (lK d ↦[kvS (hf d) i]{fullShare.right} K d) ∗ (lV d ↦[kvS (hf d) i]{fullShare.right} V d))
/-- A chunk's part of the relays, without what the replica lends. -/
def rA0 (d : Dev nD) (i : Fin 8) : sProp 𝕄 :=
  iprop(cred (tallyAt (cl d 1 i) () NK) ∗ cred (tallyAt (cl d 3 i) () NK)
    ∗ atPos ER (cl d 1 i) 0 ∅ 0 ∗ atPos ER (cl d 3 i) 0 ∅ 0
    ∗ dutyTok ER (cl d 4 i) 0 false ∗ dutyTok ER (cl (xn d) 5 i) 0 false ∗ reached ER (cl d 4 i) 0)
def sA0 (d : Dev nD) (i : Fin 8) : sProp 𝕄 := iprop(atPos ER (cl d 0 i) 0 ∅ 0 ∗ atPos ER (cl d 2 i) 0 ∅ 0)
def xA0 (d : Dev nD) (i : Fin 8) : sProp 𝕄 :=
  iprop(cred (tallyAt (cl d 5 i) () NX) ∗ atPos ER (cl d 4 i) 0 ∅ 0 ∗ atPos ER (cl d 5 i) 0 ∅ 0)

theorem deal1 (d : Dev nD) (i : Fin 8) :
    (iprop((tok d i ∗ pos d 0 i) ∗ opn d i
        ∗ ((lK d ↦[kvS (hf d) i]{fullShare.right} K d) ∗ (lV d ↦[kvS (hf d) i]{fullShare.right} V d))
        ∗ ((anyR d (ckS (hf d) i) ∗ anyR d (cvS (hf d) i)) ∗ anyR d (cxS (1 - hf d) i))) : sProp 𝕄)
      ⊢ iprop((yA0 K V d i ∗ rA0 d i) ∗ (sA0 d i ∗ xA0 d i) ∗ lendY (yn d) i ∗ lendX (xn d) i) := by
  unfold tok pos opn yA0 rA0 sA0 xA0 lendY lendX
  rw [yn_yn, xn_xn, yn_hf, xn_hf]
  iintro ⟨⟨⟨⟨Ht0, Ht1, Ht2, Ht3, Ht4, Ht5⟩, Hc1, Hc3, Hc5⟩, Ha0, Ha1, Ha2, Ha3, Ha4, Ha5⟩,
    ⟨#Hr0, #Hr1, #Hr2, #Hr3, #Hr4, #Hr5⟩, ⟨HK, HV⟩, ⟨Hk, Hv⟩, Hx⟩
  isplitl [Ht0 Ht1 Ht2 Ht3 Ht4 Ht5 Hc1 Hc3 Ha1 Ha3 HK HV]
  · isplitl [Ht0 Ht1 Ht2 Ht3 HK HV]
    · isplitl [Ht0]; · iexact Ht0
      isplitl [Ht1]; · iexact Ht1
      isplitl [Ht2]; · iexact Ht2
      isplitl [Ht3]; · iexact Ht3
      isplitr; · iexact Hr0
      isplitr; · iexact Hr2
      isplitl [HK]; · iexact HK
      iexact HV
    isplitl [Hc1]; · iexact Hc1
    isplitl [Hc3]; · iexact Hc3
    isplitl [Ha1]; · iexact Ha1
    isplitl [Ha3]; · iexact Ha3
    isplitl [Ht4]; · iexact Ht4
    isplitl [Ht5]; · iexact Ht5
    iexact Hr4
  isplitl [Ha0 Ha2 Hc5 Ha4 Ha5]
  · isplitl [Ha0 Ha2]
    · isplitl [Ha0]; · iexact Ha0
      iexact Ha2
    isplitl [Hc5]; · iexact Hc5
    isplitl [Ha4]; · iexact Ha4
    iexact Ha5
  isplitl [Hk Hv]
  · isplitl [Hk]; · iexact Hk
    isplitr; · iexact Hr1
    isplitl [Hv]; · iexact Hv
    iexact Hr3
  isplitl [Hx]; · iexact Hx
  iexact Hr5

/-- All that is held, dealt to the steps. -/
theorem deal (d : Dev nD) :
    (iprop(bigSep Finset.univ (tok d) ∗ bigSep Finset.univ (pos d 0) ∗ bigSep Finset.univ (opn d)
        ∗ (bigSep Finset.univ (fun i : Fin 8 => (iprop(lK d ↦[kvS (hf d) i]{fullShare.right} K d) : sProp 𝕄))
          ∗ bigSep Finset.univ (fun i : Fin 8 => (iprop(lV d ↦[kvS (hf d) i]{fullShare.right} V d) : sProp 𝕄)))
        ∗ (∃ f, lR d ↦[Finset.univ]{fullShare} f)) : sProp 𝕄)
      ⊢ iprop((bigSep Finset.univ (yA0 K V d) ∗ bigSep Finset.univ (rA0 d)) ∗ (bigSep Finset.univ (sA0 d) ∗ bigSep Finset.univ (xA0 d))
          ∗ bigSep Finset.univ (lendY (F := F) (yn d)) ∗ bigSep Finset.univ (lendX (F := F) (xn d))) := by
  have h := BI.bigSep_mono (s := (Finset.univ : Finset (Fin 8))) (fun i _ => deal1 K V d i)
  simp only [bigSep_sep'] at h
  iintro ⟨Ht, Hp, Ho, ⟨HK, HV⟩, HR⟩
  ihave HR := (split_R d) $$ HR
  icases HR with ⟨H1, H2⟩
  iapply (show _ ⊢ _ from h)
  isplitl [Ht Hp]
  · isplitl [Ht]; · iexact Ht
    iexact Hp
  isplitl [Ho]; · iexact Ho
  isplitl [HK HV]
  · isplitl [HK]; · iexact HK
    iexact HV
  isplitl [H1]
  · iapply (Entails.of_eq (bigSep_sep' _ _ _)) $$ H1
  iexact H2

/-! ## The run -/

theorem with_lendY (d : Dev nD) :
    (iprop(bigSep Finset.univ (yA0 K V d) ∗ bigSep Finset.univ (lendY (F := F) d)) : sProp 𝕄) ⊢ bigSep Finset.univ (yA K V d) := by
  refine (Entails.of_eq (bigSep_sep' _ _ _).symm).trans (show (_ : sProp 𝕄) ⊢ _ from BI.bigSep_mono fun i _ => ?_)
  refine show (_ : sProp 𝕄) ⊢ _ from ?_
  unfold yA0 yA
  iintro ⟨⟨H0, H1, H2, H3, H4, H5, H6, H7⟩, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem with_lendX (d : Dev nD) :
    (iprop(bigSep Finset.univ (rA0 d) ∗ bigSep Finset.univ (lendX (F := F) d)) : sProp 𝕄)
      ⊢ iprop(bigSep Finset.univ (fun c : Fin 4 => rA (F := F) d ⟨c.val, by omega⟩)
          ∗ bigSep Finset.univ (fun c : Fin 4 => rA (F := F) d ⟨4 + c.val, by omega⟩)) := by
  refine (Entails.of_eq (bigSep_sep' _ _ _).symm).trans ((show (_ : sProp 𝕄) ⊢ _ from BI.bigSep_mono fun i _ => ?_).trans (Entails.of_eq (half8 (rA d))))
  refine show (_ : sProp 𝕄) ⊢ _ from ?_
  unfold rA0 rA
  iintro ⟨⟨H0, H1, H2, H3, H4, H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem with_sent (d : Dev nD) :
    (iprop(bigSep Finset.univ (yB (F := F) d) ∗ bigSep Finset.univ (sA0 d)) : sProp 𝕄) ⊢ bigSep Finset.univ (sA (F := F) d) := by
  refine (Entails.of_eq (bigSep_sep' _ _ _).symm).trans (show (_ : sProp 𝕄) ⊢ _ from BI.bigSep_mono fun i _ => ?_)
  exact show (_ : sProp 𝕄) ⊢ _ from .rfl

theorem relayed (d : Dev nD) (n : Nat) (hn : n < 2) (j : Fin 4) (hj : stW d j = 2 * hf d + n) :
    (bigSep Finset.univ (fun c : Fin 4 => rB K V d ⟨4 * n + c.val, by omega⟩) : sProp 𝕄)
      ⊢ iprop(bigSep Finset.univ (fun c : Fin 4 => (iprop(cred (tallyAt (cl d 4 ⟨4 * n + c.val, by omega⟩) () NX)
            ∗ atPos ER (cl d 1 ⟨4 * n + c.val, by omega⟩) 1 ∅ 0 ∗ atPos ER (cl d 3 ⟨4 * n + c.val, by omega⟩) 1 ∅ 0) : sProp 𝕄))
          ∗ got K V d j fullShare.left) := by
  refine Entails.trans (show (_ : sProp 𝕄) ⊢ _ from BI.bigSep_mono fun i _ => ?_)
    ((Entails.of_eq (bigSep_sep' _ _ _)).trans
      (sep_mono .rfl (Entails.of_eq (join_batch K V d j (hf d) n hn hj fullShare.left))))
  refine show (_ : sProp 𝕄) ⊢ _ from ?_
  unfold rB
  iintro ⟨H0, H1, H2, H3⟩
  isplitr [H3]
  · isplitl [H0]; · iexact H0
    isplitl [H1]; · iexact H1
    iexact H2
  iexact H3

/-- What a relay leaves beside the data. -/
def rC (d : Dev nD) (i : Fin 8) : sProp 𝕄 :=
  iprop(cred (tallyAt (cl d 4 i) () NX) ∗ atPos ER (cl d 1 i) 1 ∅ 0 ∗ atPos ER (cl d 3 i) 1 ∅ 0)

theorem relayed0 (d : Dev nD) :
    (bigSep Finset.univ (fun c : Fin 4 => rB K V d ⟨c.val, by omega⟩) : sProp 𝕄)
      ⊢ iprop(bigSep Finset.univ (fun c : Fin 4 => rC (F := F) d ⟨c.val, by omega⟩) ∗ got K V d 0 fullShare.left) := by
  have h := relayed K V d 0 (by decide) 0 (stW_0 d)
  simp only [Nat.mul_zero, Nat.zero_add] at h
  exact h
theorem relayed1 (d : Dev nD) :
    (bigSep Finset.univ (fun c : Fin 4 => rB K V d ⟨4 + c.val, by omega⟩) : sProp 𝕄)
      ⊢ iprop(bigSep Finset.univ (fun c : Fin 4 => rC (F := F) d ⟨4 + c.val, by omega⟩) ∗ got K V d 1 fullShare.left) :=
  relayed K V d 1 (by decide) 1 (stW_1 d)

theorem with_x (d : Dev nD) :
    (iprop(bigSep Finset.univ (rC (F := F) d) ∗ bigSep Finset.univ (xA0 d)) : sProp 𝕄)
      ⊢ iprop(bigSep Finset.univ (xA (F := F) d)
          ∗ bigSep Finset.univ (fun i => (iprop(atPos ER (cl d 1 i) 1 ∅ 0 ∗ atPos ER (cl d 3 i) 1 ∅ 0) : sProp 𝕄))) := by
  refine (Entails.of_eq (bigSep_sep' _ _ _).symm).trans
    ((show (_ : sProp 𝕄) ⊢ _ from BI.bigSep_mono fun i _ => ?_).trans (Entails.of_eq (bigSep_sep' _ _ _)))
  refine show (_ : sProp 𝕄) ⊢ _ from ?_
  unfold rC xA0 xA
  iintro ⟨⟨H0, H1, H2⟩, H3, H4, H5⟩
  isplitr [H1 H2]
  · isplitl [H0]; · iexact H0
    isplitl [H3]; · iexact H3
    isplitl [H4]; · iexact H4
    iexact H5
  isplitl [H1]; · iexact H1
  iexact H2

/-- The counters at the end. -/
theorem gather (d : Dev nD) :
    (iprop(bigSep Finset.univ (fun i => (iprop(atPos ER (cl d 1 i) 1 ∅ 0 ∗ atPos ER (cl d 3 i) 1 ∅ 0) : sProp 𝕄))
        ∗ bigSep Finset.univ (sB K V d) ∗ bigSep Finset.univ (xB K V d)) : sProp 𝕄)
      ⊢ iprop(bigSep Finset.univ (pos (F := F) d 1)
          ∗ (bigSep Finset.univ (fun i : Fin 8 => (iprop(lK d ↦[kvS (hf d) i]{fullShare.right} K d) : sProp 𝕄))
            ∗ bigSep Finset.univ (fun i : Fin 8 => (iprop(lV d ↦[kvS (hf d) i]{fullShare.right} V d) : sProp 𝕄)))
          ∗ (got K V d 0 fullShare.right ∗ got K V d 1 fullShare.right) ∗ (got K V d 2 fullShare ∗ got K V d 3 fullShare)) := by
  rw [← join_half, ← join_other, ← bigSep_sep', ← bigSep_sep', ← bigSep_sep', ← bigSep_sep', ← bigSep_sep', ← bigSep_sep']
  refine show (_ : sProp 𝕄) ⊢ _ from BI.bigSep_mono fun i _ => ?_
  refine show (_ : sProp 𝕄) ⊢ _ from ?_
  unfold pos sB xB
  iintro ⟨⟨H1, H3⟩, ⟨H0, H2, HK, HV⟩, H4, H5, Hr, Hf⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HK HV]
  · isplitl [HK]; · iexact HK
    iexact HV
  isplitl [Hr]; · iexact Hr
  iexact Hf

/-- The whole body on device `d`. -/
theorem bodyRun (κ : GSem nD τ sig → ℕ) (d : Dev nD) (Qp : PUnit → sProp 𝕄) :
    iprop(runPre Q K V κ d ∗ (runPost Q K V κ d -∗ Qp ⟨⟩)) ⊢ runs d (bodyS d) Qp := by
  unfold runPre bodyS barA
  rw [split_K K d, split_V V d]
  iintro ⟨⟨HS, ⟨Hbp, HtY, HtX, Hbc⟩, Ht, Hp, Ho, HQ, ⟨HKl, HKr, HK'⟩, ⟨HVl, HVr, HV'⟩, HR, ⟨%fA, HA⟩, ⟨%fO, HO⟩⟩, Hk⟩
  ihave Hd := (deal K V d) $$ [Ht Hp Ho HKr HVr HR]
  · isplitl [Ht]; · iexact Ht
    isplitl [Hp]; · iexact Hp
    isplitl [Ho]; · iexact Ho
    isplitl [HKr HVr]
    · isplitl [HKr]; · iexact HKr
      iexact HVr
    iexact HR
  icases Hd with ⟨⟨Hy, Hr⟩, ⟨Hs, Hx⟩, HlY, HlX⟩
  iapply (barrier_step K V κ d Qp _)
  isplitl [HS]; · iexact HS
  unfold bA bB
  isplitl [Hbp HtY HtX Hbc HlY HlX]
  · isplitl [Hbp]; · iexact Hbp
    isplitl [HtY]; · iexact HtY
    isplitl [HtX]; · iexact HtX
    isplitl [Hbc]; · iexact Hbc
    isplitl [HlY]; · iexact HlY
    iexact HlX
  iintro ⟨HS, Hbp, HlY, HlX⟩
  ihave Hy := (with_lendY K V d) $$ [Hy HlY]
  · isplitl [Hy]; · iexact Hy
    iexact HlY
  ihave Hr := (with_lendX d) $$ [Hr HlX]
  · isplitl [Hr]; · iexact Hr
    iexact HlX
  icases Hr with ⟨Hr0, Hr1⟩
  iapply (runs_rep d Qp _ (fun n => st K V κ d (fromSum 0 (tX d) + fromSum n (tY d))) (yA K V d) (yB d)
    (fun i K' => sendY_step K V κ d Qp i K') _)
  isplitl [HS]; · iexact HS
  isplitl [Hy]; · iexact Hy
  rw [fromSum_end (tY d), add_zero]
  iintro ⟨HS, Hy⟩
  ihave Hs := (with_sent d) $$ [Hy Hs]
  · isplitl [Hy]; · iexact Hy
    iexact Hs
  iapply (phase2 Q K V κ d Qp _)
  isplitl [HS HQ HKl HVl HA]
  · isplitl [HS]; · iexact HS
    isplitl [HQ HKl HVl]
    · unfold inp
      isplitl [HQ]; · iexact HQ
      isplitl [HKl]; · iexact HKl
      iexact HVl
    unfold accSt
    iexists fA
    isplitr
    · ipureintro; exact fun x hx => absurd hx (Nat.not_lt_zero _)
    iexact HA
  isplitl [Hr0]; · iexact Hr0
  iintro ⟨⟨HS, HI, HA⟩, Hr0⟩
  ihave Hr0 := (relayed0 K V d) $$ Hr0
  icases Hr0 with ⟨Hr0, HG0⟩
  iapply (phase3 Q K V κ d Qp fullShare.left _)
  isplitl [HS HI HG0 HA HO]
  · isplitl [HS]; · iexact HS
    isplitl [HI]; · iexact HI
    isplitl [HG0]; · iexact HG0
    isplitl [HA]; · iexact HA
    unfold outSt
    iexists fO
    isplitr
    · ipureintro; exact fun x hx => absurd hx (Nat.not_lt_zero _)
    iexact HO
  isplitl [Hr1]; · iexact Hr1
  rw [fromSum_end (tX d)]
  iintro ⟨⟨HS, HI, HG0, HA, HO⟩, Hr1⟩
  ihave Hr1 := (relayed1 K V d) $$ Hr1
  icases Hr1 with ⟨Hr1, HG1⟩
  ihave Hx := (with_x d) $$ [Hr0 Hr1 Hx]
  · isplitl [Hr0 Hr1]
    · iapply (Entails.of_eq (half8 (rC d)).symm)
      isplitl [Hr0]; · iexact Hr0
      iexact Hr1
    iexact Hx
  icases Hx with ⟨Hx, Hp⟩
  iapply (rem8_step Q K V d Qp 1 fullShare.left _)
  isplitl [HI HG1 HA HO]
  · isplitl [HI]; · iexact HI
    isplitl [HG1]; · iexact HG1
    isplitl [HA]; · iexact HA
    iexact HO
  iintro ⟨HI, HG1, HA, HO⟩
  iapply (runs_rep d Qp _ (fun _ => st K V κ d 0) (sA d) (sB K V d) (fun i K' => sent_step K V κ d Qp i K') _)
  isplitl [HS]; · iexact HS
  isplitl [Hs]; · iexact Hs
  iintro ⟨HS, Hs⟩
  iapply (runs_rep d Qp _ (fun _ => st K V κ d 0) (xA d) (xB K V d) (fun i K' => x_step K V κ d Qp i K') _)
  isplitl [HS]; · iexact HS
  isplitl [Hx]; · iexact Hx
  iintro ⟨HS, Hx⟩
  ihave Hg := (gather K V d) $$ [Hp Hs Hx]
  · isplitl [Hp]; · iexact Hp
    isplitl [Hs]; · iexact Hs
    iexact Hx
  icases Hg with ⟨Hp, ⟨HKr, HVr⟩, ⟨HG0r, HG1r⟩, HG2, HG3⟩
  iapply (rem8_step Q K V d Qp 2 fullShare _)
  isplitl [HI HG2 HA HO]
  · isplitl [HI]; · iexact HI
    isplitl [HG2]; · iexact HG2
    isplitl [HA]; · iexact HA
    iexact HO
  iintro ⟨HI, HG2, HA, HO⟩
  iapply (rem8_step Q K V d Qp 3 fullShare _)
  isplitl [HI HG3 HA HO]
  · isplitl [HI]; · iexact HI
    isplitl [HG3]; · iexact HG3
    isplitl [HA]; · iexact HA
    iexact HO
  unfold inp accSt outSt
  iintro ⟨⟨HQ, HKl, HVl⟩, HG3, ⟨%fA', -, HA⟩, ⟨%fO', %hO, HO⟩⟩
  ihave HG0 := (join_share K V d 0) $$ [HG0 HG0r]
  · isplitl [HG0]; · iexact HG0
    iexact HG0r
  ihave HG1 := (join_share K V d 1) $$ [HG1 HG1r]
  · isplitl [HG1]; · iexact HG1
    iexact HG1r
  ihave HR := (join_all K V d) $$ [HG0 HG1 HG2 HG3]
  · isplitl [HG0]; · iexact HG0
    isplitl [HG1]; · iexact HG1
    isplitl [HG2]; · iexact HG2
    iexact HG3
  have hO' : ∀ x ∈ (Finset.univ : Finset S4x256x1024.Idx), fO' x = outF Q K V d x := fun x _ =>
    hO x (by have h1 := (ouJ d x).isLt; have h2 := (ouH x).isLt; simp; omega)
  unfold runs
  rw [wp_ret]
  imodintro
  iapply Hk
  unfold runPost
  rw [split_K K d, split_V V d]
  isplitl [HS]; · iexact HS
  isplitl [Hbp]; · iexact Hbp
  isplitl [Hp]; · iexact Hp
  isplitl [HQ]; · iexact HQ
  isplitl [HKl HKr HK']
  · isplitl [HKl]; · iexact HKl
    isplitl [HKr]; · iexact HKr
    iexact HK'
  isplitl [HVl HVr HV']
  · isplitl [HVl]; · iexact HVl
    isplitl [HVr]; · iexact HVr
    iexact HV'
  isplitl [HR]
  · iexists (rkvF K V d); iexact HR
  isplitl [HA]
  · iexists fA'; iexact HA
  iapply (Entails.of_eq (pointsTo_congr hO')) $$ HO

end

end Cert.KernelIdeal.Attn
-- ==== Proof.Region.lean ====
module

public import proofs.«01_k».proof.Proof.Run
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.ValueKit.Geometry
public import Idealize.ShloMosaic.Lib.Pipeline.FrameSuffix

/-!
# The kernel region

The run of the body as a region of the program: what enters, what leaves, and the semaphores opened and closed.
-/

@[expose] public section

open Idealize.ShloMosaic Idealize.ShloMosaic.TcCoe
open Idealize.SL
open Idealize.SL.BI (sProp bigSep bigSep_sep' bigSep_singleton bigSep_insert)
open scoped Idealize.SL.BI
open Idealize.SL.BI.BIBase Idealize.SL.BI.Laws Idealize.SL.ProofMode Idealize.SL.Sem
open Idealize.SL.RA
open Idealize.ShloMosaic.Rounds
open Cert.KernelIdeal Cert.KernelIdeal.Gen

set_option synthInstance.maxSize 4096

noncomputable section

namespace Cert.KernelIdeal.Attn

variable {F : FTy → Type} [FloatOps F] [Named F]

local notation "𝕄" => MT nD τ sig Unit (Elt F) ℕ UU ℕ

/-! ## Families over the cells -/

/-- A family over six indices, written out. -/
theorem bigSep_six (Ψ : Fin 6 → sProp 𝕄) :
    bigSep Finset.univ Ψ = (iprop(Ψ 0 ∗ Ψ 1 ∗ Ψ 2 ∗ Ψ 3 ∗ Ψ 4 ∗ Ψ 5) : sProp 𝕄) := by
  rw [bigSep_succ, bigSep_succ, bigSep_succ, bigSep_succ, bigSep_succ, bigSep_succ, Finset.univ_eq_empty (α := Fin 0), BI.bigSep_empty]
  rw [show ∀ A : sProp 𝕄, iprop(A ∗ BI.emp) = A from fun A => sep_emp_eq A]
  rfl

/-- A family over the six semaphores and the eight chunks, chunk by chunk. -/
theorem six (Φ : Fin 6 → Fin 8 → sProp 𝕄) :
    bigSep Finset.univ (fun p : Fin 6 × Fin 8 => Φ p.1 p.2)
      = bigSep Finset.univ fun i : Fin 8 => (iprop(Φ 0 i ∗ Φ 1 i ∗ Φ 2 i ∗ Φ 3 i ∗ Φ 4 i ∗ Φ 5 i) : sProp 𝕄) := by
  rw [BI.bigSep_univ_prod, bigSep_six]
  simp only [bigSep_sep']

theorem pos_all (d : Dev nD) (n : Nat) : bigSep Finset.univ (pos (F := F) d n)
    = bigSep Finset.univ fun p : Fin 6 × Fin 8 => (atPos ER (cl d p.1 p.2) n ∅ 0 : sProp 𝕄) :=
  (six fun k i => (atPos ER (cl d k i) n ∅ 0 : sProp 𝕄)).symm
theorem opn_all (d : Dev nD) : bigSep Finset.univ (opn (F := F) d)
    = bigSep Finset.univ fun p : Fin 6 × Fin 8 => (reached ER (cl d p.1 p.2) 0 : sProp 𝕄) :=
  (six fun k i => (reached ER (cl d k i) 0 : sProp 𝕄)).symm

/-- The kernel's own transfer semaphores. -/
abbrev osem (p : Fin 6 × Fin 8) : SemLoc sig := .dma (ds p.1 p.2)
theorem osem_facts : Pipeline.OwnSemFacts spec0 osem := by decide +kernel

section
variable (K V : Dev nD → S4x256x1024.Idx → Elt F .bf16)

/-- The own semaphores at zero and the rights to open them make open cells. -/
theorem open_cells (κ : GSem nD τ sig → ℕ) (d : Dev nD) :
    (iprop(env K V κ ∗ Pipeline.ownSems0 osem d ∗ bigSep Finset.univ (fun p : Fin 6 × Fin 8 => openTok ER (cl d p.1 p.2))) : sProp 𝕄)
      ⊢ |={Set.univ}=> iprop(bigSep Finset.univ (pos (F := F) d 0) ∗ bigSep Finset.univ (opn (F := F) d)) := by
  rw [pos_all, opn_all, ← bigSep_sep']
  unfold Pipeline.ownSems0
  have h : (iprop(env K V κ ∗ bigSep Finset.univ (fun p : Fin 6 × Fin 8 => (iprop(semVal (cl d p.1 p.2) 0 ∗ openTok ER (cl d p.1 p.2)) : sProp 𝕄))) : sProp 𝕄)
      ⊢ bigSep Finset.univ (fun p : Fin 6 × Fin 8 => (iprop(|={Set.univ}=> (atPos ER (cl d p.1 p.2) 0 ∅ 0 ∗ reached ER (cl d p.1 p.2) 0)) : sProp 𝕄)) := by
    refine BI.bigSep_with_persistent fun p _ => ?_
    refine show (_ : sProp 𝕄) ⊢ _ from ?_
    iintro ⟨#HE, Hv, Ho⟩
    iapply (Rounds.cell_open ER (sched K V) (g := cl d p.1 p.2) (Set.mem_univ (κ (cl d p.1 p.2))))
    isplitr; · iapply (env_cl K V κ d p.1 p.2); iexact HE
    isplitl [Ho]; · iexact Ho
    iexact Hv
  iintro ⟨HE, Hv, Ho⟩
  iapply (show _ ⊢ _ from BI.bigSep_fupd _ _)
  iapply h
  isplitl [HE]; · iexact HE
  iapply (Entails.of_eq (bigSep_sep' _ _ _).symm)
  isplitl [Hv]; · iexact Hv
  iexact Ho

/-- After the run the cells close, every counter at zero. -/
theorem close_cells (κ : GSem nD τ sig → ℕ) (d : Dev nD) :
    (iprop(env K V κ ∗ atPos ER (br d) 1 ∅ 0 ∗ bigSep Finset.univ (pos (F := F) d 1)) : sProp 𝕄)
      ⊢ |={Set.univ}=> iprop(Pipeline.ownSems0 osem d ∗ semVal (br d) 0) := by
  rw [pos_all]
  unfold Pipeline.ownSems0
  have h : (iprop(env K V κ ∗ bigSep Finset.univ (fun p : Fin 6 × Fin 8 => (atPos ER (cl d p.1 p.2) 1 ∅ 0 : sProp 𝕄))) : sProp 𝕄)
      ⊢ bigSep Finset.univ (fun p : Fin 6 × Fin 8 => (iprop(|={Set.univ}=> semVal (cl d p.1 p.2) 0) : sProp 𝕄)) := by
    refine BI.bigSep_with_persistent fun p _ => ?_
    refine show (_ : sProp 𝕄) ⊢ _ from ?_
    iintro ⟨#HE, Ha⟩
    iapply (Rounds.cell_close ER (sched K V) (g := cl d p.1 p.2) (κ := κ (cl d p.1 p.2)) (R := 1) (Set.mem_univ _) id
      (fun r hr => duties_later K V _ r hr))
    isplitr; · iapply (env_cl K V κ d p.1 p.2); iexact HE
    iexact Ha
  iintro ⟨#HE, Hb, Hp⟩
  imod (Rounds.cell_close ER (sched K V) (g := br d) (κ := κ (br d)) (R := 1) (Set.mem_univ _) id
      (fun r hr => duties_later K V _ r hr)) $$ [Hb] with Hb
  · isplitr; · iapply (env_br K V κ d); iexact HE
    iexact Hb
  imod (h.trans (show _ ⊢ _ from BI.bigSep_fupd _ _)) $$ [Hp] with Hp
  · isplitr; · iexact HE
    iexact Hp
  imodintro
  isplitl [Hp]; · iexact Hp
  iexact Hb

end

/-! ## The region's data -/

section
variable (m : (ℓ : Loc nD τ sig) → Buf (Elt F) ℓ)

/-- A device's buffers at launch, and where the region is entered. -/
def V₀ (c : Dev nD) : Valuation τ sig (Elt F) := fun b => m (c, b)
def V₁ (c : Dev nD) : Valuation τ sig (Elt F) := StableHlo.after hostOps0 (V₀ m c)

/-- The queries, keys and values of a device. -/
def Qm (d : Dev nD) : S4x256x1024.Idx → Elt F .bf16 := V₁ m d (Proc.devRef .tc main_v2)
def Km (d : Dev nD) : S4x256x1024.Idx → Elt F .bf16 := V₁ m d (Proc.devRef .tc main_v4)
def Vm (d : Dev nD) : S4x256x1024.Idx → Elt F .bf16 := V₁ m d (Proc.devRef .tc main_v6)

/-- What the launch leaves to device `c`. -/
def Tk (c : Dev nD) : sProp 𝕄 :=
  iprop(∃ κ, env (Km m) (Vm m) κ ∗ barA c ∗ bigSep Finset.univ (tok c)
    ∗ bigSep Finset.univ (fun p : Fin 6 × Fin 8 => openTok ER (cl c p.1 p.2)))
/-- The same with its cells open. -/
def Xk (c : Dev nD) : sProp 𝕄 :=
  iprop(∃ κ, env (Km m) (Vm m) κ ∗ barA c ∗ bigSep Finset.univ (tok c)
    ∗ bigSep Finset.univ (pos (F := F) c 0) ∗ bigSep Finset.univ (opn (F := F) c))
def Yk (c : Dev nD) : sProp 𝕄 := semVal (br c) 0

theorem hopen (c : Dev nD) : iprop(Tk m c ∗ Pipeline.ownSems0 osem c ∗ levAts L lv) ⊢ (|={Set.univ}=> Xk m c : sProp 𝕄) := by
  unfold Tk Xk
  iintro ⟨⟨%κ, #HE, Hb, Ht, Ho⟩, Hs, -⟩
  imod (open_cells (Km m) (Vm m) κ c) $$ [Hs Ho] with ⟨Hp, Hq⟩
  · isplitr; · iexact HE
    isplitl [Hs]; · iexact Hs
    iexact Ho
  imodintro
  iexists κ
  isplitr; · iexact HE
  isplitl [Hb]; · iexact Hb
  isplitl [Ht]; · iexact Ht
  isplitl [Hp] <;> iassumption

/-- The scratch buffers, at contents not chosen. -/
def scr (c : Dev nD) : sProp 𝕄 :=
  iprop((∃ f, lR c ↦[Finset.univ]{fullShare} f) ∗ (∃ f, lA c ↦[Finset.univ]{fullShare} f))

/-- The invariant before and after the one point, and what is owed there. -/
def phi (c : Dev nD) : ℕ → sProp 𝕄
  | 0 => iprop(Xk m c ∗ scr c ∗ ∃ r, prngReg c r)
  | _ + 1 => iprop((Pipeline.ownSems0 osem c ∗ Yk c) ∗ scr c ∗ ∃ r, prngReg c r)
def owe (c : Dev nD) : ℕ → CellTallies nD τ sig Unit
  | 0 => O₀ c
  | _ + 1 => 0

def dat (c : Dev nD) : Pipeline.Dat τ (Elt F) Unit ℕ UU ℕ cfg0 c where
  A w := V₁ m c (Proc.devRef .tc (Pipeline.arrRef spec0 w))
  after w _ := match w with
    | 0 => Qm m c
    | 1 => Km m c
    | 2 => Vm m c
    | 3 => outF (Qm m) (Km m) (Vm m) c
    | ⟨_ + 4, h⟩ => absurd h (Nat.not_lt.2 (Nat.le_add_left _ _))
  Φ t := phi m c t.val
  q _ := fullShare
  owed t := owe c t.val

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c :=
  fun _ => dat m

theorem ix0 : ∀ a, win0_0.index t0_0 a = 0 := by decide +kernel
theorem ix1 : ∀ a, win0_1.index t0_0 a = 0 := by decide +kernel
theorem ix2 : ∀ a, win0_2.index t0_0 a = 0 := by decide +kernel

theorem rd0 (t : Fin cfg0.N) (c : Dev nD) (f : S4x256x1024.Idx → Elt F .bf16) :
    ((cfg0.win 0).blk t).view.read (Elt F) (show Buf (Elt F) ((c : Thread nD τ).loc main_v2) from f) = f := by
  obtain rfl := fin_N0 t
  funext x
  show f _ = f x
  congr 1
  funext a
  apply Fin.ext
  fin_cases a <;> simp [ValueKit.blkEmbVal] <;> exact ix0 _
theorem rd1 (t : Fin cfg0.N) (c : Dev nD) (f : S4x256x1024.Idx → Elt F .bf16) :
    ((cfg0.win 1).blk t).view.read (Elt F) (show Buf (Elt F) ((c : Thread nD τ).loc main_v4) from f) = f := by
  obtain rfl := fin_N0 t
  funext x
  show f _ = f x
  congr 1
  funext a
  apply Fin.ext
  fin_cases a <;> simp [ValueKit.blkEmbVal] <;> exact ix1 _
theorem rd2 (t : Fin cfg0.N) (c : Dev nD) (f : S4x256x1024.Idx → Elt F .bf16) :
    ((cfg0.win 2).blk t).view.read (Elt F) (show Buf (Elt F) ((c : Thread nD τ).loc main_v6) from f) = f := by
  obtain rfl := fin_N0 t
  funext x
  show f _ = f x
  congr 1
  funext a
  apply Fin.ext
  fin_cases a <;> simp [ValueKit.blkEmbVal] <;> exact ix2 _

theorem bef0 (c : Dev nD) (t : Fin cfg0.N) (d) : (dat m c).before 0 t d = Qm m c :=
  ((dat m c).before_in_eq_fetched 0 rfl (fun _ => rfl) (fun _ _ _ => rfl) (fun t => (rd0 t c (Qm m c)).symm) t d).trans (rd0 t c (Qm m c))
theorem bef1 (c : Dev nD) (t : Fin cfg0.N) (d) : (dat m c).before 1 t d = Km m c :=
  ((dat m c).before_in_eq_fetched 1 rfl (fun _ => rfl) (fun _ _ _ => rfl) (fun t => (rd1 t c (Km m c)).symm) t d).trans (rd1 t c (Km m c))
theorem bef2 (c : Dev nD) (t : Fin cfg0.N) (d) : (dat m c).before 2 t d = Vm m c :=
  ((dat m c).before_in_eq_fetched 2 rfl (fun _ => rfl) (fun _ _ _ => rfl) (fun t => (rd2 t c (Vm m c)).symm) t d).trans (rd2 t c (Vm m c))

theorem owed_first (c : Dev nD) : (dat (F := F) m c).owed (Fin.castSucc (t0_0 : Fin cfg0.N)) = O₀ c := rfl
theorem owed_last (c : Dev nD) : (dat (F := F) m c).owed (Fin.succ (t0_0 : Fin cfg0.N)) = 0 := rfl

theorem owes_in (c : Dev nD) (t : Fin (cfg0.N + 1)) (O : CellTallies nD τ sig Unit) (h : (dat (F := F) m c).owed t = O) (W : Waits sig Unit) :
    (owes (c : Thread nD τ) O W : sProp 𝕄) ⊢ ((dat m c).owesAt () t : sProp 𝕄) := by
  unfold Pipeline.Dat.owesAt Pipeline.owesWithin Pipeline.Dat.bound; rw [h]
  iintro H; iexists W; isplitr; · ipureintro; exact fun _ _ => Or.inl trivial
  iexact H
theorem owes_out (c : Dev nD) (t : Fin (cfg0.N + 1)) (O : CellTallies nD τ sig Unit) (h : (dat (F := F) m c).owed t = O) :
    ((dat m c).owesAt () t : sProp 𝕄) ⊢ iprop(∃ W, owes (c : Thread nD τ) O W) := by
  unfold Pipeline.Dat.owesAt Pipeline.owesWithin; rw [h]
  iintro ⟨%W, -, H⟩; iexists W; iexact H

set_option maxRecDepth 65536 in
/-- The region's entry runs the printed body. -/
theorem entry_eq : defs₀ (F := F) .tc cfg0.body (cfg0.bodyArgs t0_0 (cfg0.slots t0_0)) = Prog.op .deviceId fun d => bodyS d := by
  chain_rfl

theorem slot_eq (w : Fin cfg0.W) (t : Fin cfg0.N) : (cfg0.slots t w).val = 0 := by
  have h := (cfg0.slots t w).isLt
  have h1 : (cfg0.win w).nbuf = 1 := (by decide : ∀ w : Fin 4, (spec0 w).nbuf = 1) w
  omega
theorem stg0 (t : Fin cfg0.N) : (cfg0.win 0).stage (cfg0.slots t 0) = mQ := congrArg (cfg0.win 0).stage (Fin.ext (slot_eq 0 t) : cfg0.slots t 0 = (0 : Fin 1))
theorem stg1 (t : Fin cfg0.N) : (cfg0.win 1).stage (cfg0.slots t 1) = mK := congrArg (cfg0.win 1).stage (Fin.ext (slot_eq 1 t) : cfg0.slots t 1 = (0 : Fin 1))
theorem stg2 (t : Fin cfg0.N) : (cfg0.win 2).stage (cfg0.slots t 2) = mV := congrArg (cfg0.win 2).stage (Fin.ext (slot_eq 2 t) : cfg0.slots t 2 = (0 : Fin 1))
theorem stg3 (t : Fin cfg0.N) : (cfg0.win 3).stage (cfg0.slots t 3) = mO := congrArg (cfg0.win 3).stage (Fin.ext (slot_eq 3 t) : cfg0.slots t 3 = (0 : Fin 1))

/-- The body run as the region's obligation. -/
theorem body_ob (c : Dev nD) : Pipeline.BodyObligation (dat m c) defs₀ 𝒱₀ () Set.univ := fun t => by
  obtain rfl := fin_N0 t
  rw [bigSep_W0, bigSep_W0]
  rw [show (dat m c).Φ (Fin.castSucc t0_0) = iprop(Xk m c ∗ scr c ∗ ∃ r, prngReg c r) from rfl,
    show (dat m c).Φ (Fin.succ t0_0) = iprop((Pipeline.ownSems0 osem c ∗ Yk c) ∗ scr c ∗ ∃ r, prngReg c r) from rfl]
  rw [entry_eq, wp_deviceId]
  simp only [stg0, stg1, stg2, stg3]
  rw [show (dat m c).after 0 t0_0 = Qm m c from rfl, show (dat m c).after 1 t0_0 = Km m c from rfl,
    show (dat m c).after 2 t0_0 = Vm m c from rfl, show (dat m c).after 3 t0_0 = outF (Qm m) (Km m) (Vm m) c from rfl]
  simp only [bef0, bef1, bef2, stage0_0, stage0_1, stage0_2, stage0_3, owns_whole]
  unfold scr Yk Xk
  iintro ⟨⟨⟨%κ, #HE, Hb, Ht, Hp, Ho⟩, ⟨HR, HA⟩, Hg⟩, HO, ⟨%_, HQ⟩, ⟨%_, HK⟩, ⟨%_, HV⟩, ⟨%d3, HOut⟩⟩
  ihave HO' := (owes_out m c _ (O₀ c) (owed_first m c)) $$ HO
  iapply wp_fupd
  iapply (bodyRun (Qm m) (Km m) (Vm m) κ c _)
  isplitr [Hg]
  · unfold runPre st
    isplitl [HO']
    · isplitr; · iexact HE
      iexact HO'
    isplitl [Hb]; · iexact Hb
    isplitl [Ht]; · iexact Ht
    isplitl [Hp]; · iexact Hp
    isplitl [Ho]; · iexact Ho
    isplitl [HQ]; · iexact HQ
    isplitl [HK]; · iexact HK
    isplitl [HV]; · iexact HV
    isplitl [HR]; · iexact HR
    isplitl [HA]; · iexact HA
    iexists _; iexact HOut
  unfold runPost st
  iintro ⟨⟨-, ⟨%W, HO⟩⟩, Hb, Hp, HQ, HK, HV, HR, HA, HOut⟩
  imod (close_cells (Km m) (Vm m) κ c) $$ [Hb Hp] with ⟨Hs, Hb⟩
  · isplitr; · iexact HE
    isplitl [Hb]; · iexact Hb
    iexact Hp
  imodintro
  isplitl [Hs Hb HR HA Hg]
  · isplitl [Hs Hb]; · isplitl [Hs] <;> iassumption
    isplitl [HR HA]; · isplitl [HR] <;> iassumption
    iexact Hg
  isplitl [HO]; · iapply (owes_in m c _ 0 (owed_last m c) W); iexact HO
  isplitl [HQ]; · iexact HQ
  isplitl [HK]; · iexact HK
  isplitl [HV]; · iexact HV
  iexact HOut

end

end Cert.KernelIdeal.Attn
-- ==== Proof.Deal.lean ====
module

public import proofs.«01_k».proof.Proof.Region

/-!
# The launch

What every device starts with: its credits, its duty tokens, and the cells of the protocol.
-/
@[expose] public section

open Idealize.ShloMosaic Idealize.ShloMosaic.TcCoe
open Idealize.SL
open Idealize.SL.BI (sProp bigSep bigSep_sep' bigSep_singleton bigSep_insert)
open scoped Idealize.SL.BI
open Idealize.SL.BI.BIBase Idealize.SL.BI.Laws Idealize.SL.ProofMode Idealize.SL.Sem
open Idealize.SL.RA
open Idealize.ShloMosaic.Rounds
open Cert.KernelIdeal Cert.KernelIdeal.Gen

set_option synthInstance.maxSize 4096

noncomputable section

namespace Cert.KernelIdeal.Attn

variable {F : FTy → Type} [FloatOps F] [Named F]

local notation "𝕄" => MT nD τ sig Unit (Elt F) ℕ UU ℕ

/-! ## The credits -/

theorem ds_inj : Function.Injective (fun p : Fin 6 × Fin 8 => ds p.1 p.2) := by decide +kernel
theorem cl_inj {d d' : Dev nD} {k k' : Fin 6} {i i' : Fin 8} (h : cl d k i = cl d' k' i') : d = d' ∧ k = k' ∧ i = i' := by
  have h1 : d = d' := congrArg (fun g : GSem nD τ sig => g.1.1) h
  have h2 : (SemLoc.dma (ds k i) : SemLoc sig) = .dma (ds k' i') := congrArg Prod.snd h
  have h3 : ds k i = ds k' i' := by injection h2
  have h4 : ((k, i) : Fin 6 × Fin 8) = (k', i') := ds_inj h3
  exact ⟨h1, congrArg Prod.fst h4, congrArg Prod.snd h4⟩
theorem br_inj {d d' : Dev nD} (h : br d = br d') : d = d' := congrArg (fun g : GSem nD τ sig => g.1.1) h
theorem br_ne_cl (d d' : Dev nD) (k : Fin 6) (i : Fin 8) : br d ≠ cl d' k i := fun h => by
  have h2 : (SemLoc.reg barS : SemLoc sig) = .dma (ds k i) := congrArg Prod.snd h
  cases h2

/-- What all devices owe to one cell: of chunk units, of barrier units. -/
def sumC (f : Dev nD → Dev nD) (k : Fin 6) (n : ℕ) (g : GSem nD τ sig) : ℕ :=
  ∑ d : Dev nD, ∑ i : Fin 8, (tallyAt (cl (f d) k i) () n : CellTallies nD τ sig Unit) g ()
def sumB (f : Dev nD → Dev nD) (g : GSem nD τ sig) : ℕ :=
  ∑ d : Dev nD, (tallyAt (br (f d)) () 1 : CellTallies nD τ sig Unit) g ()

theorem sumC_cl (f : Dev nD → Dev nD) (hf : ∀ d, f (f d) = d) (k k' : Fin 6) (n : ℕ) (c : Dev nD) (i : Fin 8) :
    sumC f k' n (cl c k i) = if k = k' then n else 0 := by
  unfold sumC
  by_cases h : k = k'
  · subst h
    rw [if_pos rfl, Finset.sum_eq_single (f c), Finset.sum_eq_single i]
    · rw [hf, tallyAt_apply, if_pos ⟨rfl, rfl⟩]
    · intro j _ hj; rw [tallyAt_apply, if_neg (fun hh => hj (cl_inj hh.1).2.2.symm)]
    · intro hh; exact absurd (Finset.mem_univ _) hh
    · intro d _ hd
      refine Finset.sum_eq_zero fun j _ => ?_
      rw [tallyAt_apply, if_neg (fun hh => hd (by rw [(cl_inj hh.1).1, hf]))]
    · intro hh; exact absurd (Finset.mem_univ _) hh
  · rw [if_neg h]
    refine Finset.sum_eq_zero fun d _ => Finset.sum_eq_zero fun j _ => ?_
    rw [tallyAt_apply, if_neg (fun hh => h (cl_inj hh.1).2.1)]
theorem sumC_br (f : Dev nD → Dev nD) (k : Fin 6) (n : ℕ) (c : Dev nD) : sumC f k n (br c) = 0 :=
  Finset.sum_eq_zero fun d _ => Finset.sum_eq_zero fun j _ => by
    rw [tallyAt_apply, if_neg (fun hh => br_ne_cl _ _ _ _ hh.1)]
theorem sumB_br (f : Dev nD → Dev nD) (hf : ∀ d, f (f d) = d) (c : Dev nD) : sumB f (br c) = 1 := by
  unfold sumB
  rw [Finset.sum_eq_single (f c)]
  · rw [hf, tallyAt_apply, if_pos ⟨rfl, rfl⟩]
  · intro d _ hd; rw [tallyAt_apply, if_neg (fun hh => hd (by rw [br_inj hh.1, hf]))]
  · intro hh; exact absurd (Finset.mem_univ _) hh
theorem sumB_cl (f : Dev nD → Dev nD) (c : Dev nD) (k : Fin 6) (i : Fin 8) : sumB f (cl c k i) = 0 :=
  Finset.sum_eq_zero fun d _ => by rw [tallyAt_apply, if_neg (fun hh => br_ne_cl _ _ _ _ hh.1.symm)]

theorem O₀_at (d : Dev nD) (g : GSem nD τ sig) : O₀ d g ()
    = (∑ i, (tallyAt (cl (xn d) 5 i) () NX : CellTallies nD τ sig Unit) g ())
      + ((∑ i, (tallyAt (cl (yn d) 3 i) () NK : CellTallies nD τ sig Unit) g ())
        + ∑ i, (tallyAt (cl (yn d) 1 i) () NK : CellTallies nD τ sig Unit) g ())
      + (tallyAt (br (xn d)) () 1 : CellTallies nD τ sig Unit) g () + (tallyAt (br (yn d)) () 1 : CellTallies nD τ sig Unit) g () := by
  unfold O₀ O₁
  rw [fromSum_zero, fromSum_zero]
  simp only [tX, tY, Finset.sum_add_distrib, Pi.add_apply, Finsupp.add_apply, Finset.sum_apply, Finsupp.finset_sum_apply]

theorem owed_all (g : GSem nD τ sig) : (∑ d, O₀ d g ()) = sumC xn 5 NX g + (sumC yn 3 NK g + sumC yn 1 NK g) + sumB xn g + sumB yn g := by
  simp only [O₀_at, Finset.sum_add_distrib, sumC, sumB]

theorem owed_br (c : Dev nD) : (∑ d, O₀ d (br c) ()) = 2 := by
  rw [owed_all, sumC_br, sumC_br, sumC_br, sumB_br xn xn_xn, sumB_br yn yn_yn]
theorem owed_1 (c : Dev nD) (i : Fin 8) : (∑ d, O₀ d (cl c 1 i) ()) = NK := by
  rw [owed_all, sumC_cl xn xn_xn, sumC_cl yn yn_yn, sumC_cl yn yn_yn, sumB_cl, sumB_cl]; rfl
theorem owed_3 (c : Dev nD) (i : Fin 8) : (∑ d, O₀ d (cl c 3 i) ()) = NK := by
  rw [owed_all, sumC_cl xn xn_xn, sumC_cl yn yn_yn, sumC_cl yn yn_yn, sumB_cl, sumB_cl]; rfl
theorem owed_5 (c : Dev nD) (i : Fin 8) : (∑ d, O₀ d (cl c 5 i) ()) = NX := by
  rw [owed_all, sumC_cl xn xn_xn, sumC_cl yn yn_yn, sumC_cl yn yn_yn, sumB_cl, sumB_cl]; rfl

theorem launch_at (g : GSem nD τ sig) (hg : g.1.2 = .tc) (n : ℕ) (h : (∑ d, O₀ d g ()) = n) :
    tallyOn g (launchCredit (Pipeline.owing O₀) 0 g) = (tallyAt g () n : CellTallies nD τ sig Unit) := by
  obtain ⟨⟨c, p⟩, sm⟩ := g
  obtain rfl : p = .tc := hg
  unfold tallyAt; refine congrArg _ (Finsupp.ext fun u => ?_); cases u
  rw [Pipeline.launchCredit_owing, Finsupp.single_eq_same]
  exact h

/-- The semaphores a device is credited at. -/
def crEmb : Unit ⊕ (Fin 3 × Fin 8) ↪ SemLoc sig where
  toFun | .inl _ => .reg barS | .inr p => .dma (ds ⟨2 * p.1.val + 1, by omega⟩ p.2)
  inj' := by decide +kernel

theorem bigSep_three (Ψ : Fin 3 → sProp 𝕄) : bigSep Finset.univ Ψ = (iprop(Ψ 0 ∗ Ψ 1 ∗ Ψ 2) : sProp 𝕄) := by
  rw [bigSep_succ, bigSep_succ, bigSep_succ, Finset.univ_eq_empty (α := Fin 0), BI.bigSep_empty]
  rw [show ∀ A : sProp 𝕄, iprop(A ∗ BI.emp) = A from fun A => sep_emp_eq A]
  rfl

/-- The credits of one chunk. -/
def crs (d : Dev nD) (i : Fin 8) : sProp 𝕄 :=
  iprop(cred (tallyAt (cl d 1 i) () NK) ∗ cred (tallyAt (cl d 3 i) () NK) ∗ cred (tallyAt (cl d 5 i) () NX))

theorem creds (c : Dev nD) :
    (Pipeline.launchCred O₀ c : sProp 𝕄) ⊢ iprop(cred (tallyAt (br c) () 2) ∗ bigSep Finset.univ (crs (F := F) c)) := by
  unfold Pipeline.launchCred
  refine (show (_ : sProp 𝕄) ⊢ _ from BI.bigSep_subset (Finset.subset_univ (Finset.univ.map crEmb))).trans (Entails.of_eq ?_)
  rw [BI.bigSep_map, BI.bigSep_univ_sum, BI.bigSep_univ_prod, bigSep_three]
  unfold crs
  rw [bigSep_sep', bigSep_sep']
  congr 1
  · rw [Finset.univ_unique, bigSep_singleton]
    exact congrArg _ (launch_at (br c) rfl 2 (owed_br c))
  · congr 1
    · exact BI.bigSep_congr fun i _ => congrArg _ (launch_at (cl c 1 i) rfl NK (owed_1 c i))
    · congr 1
      · exact BI.bigSep_congr fun i _ => congrArg _ (launch_at (cl c 3 i) rfl NK (owed_3 c i))
      · exact BI.bigSep_congr fun i _ => congrArg _ (launch_at (cl c 5 i) rfl NX (owed_5 c i))

/-! ## The cells and the tokens -/

def brEmb : Dev nD ↪ GSem nD τ sig := ⟨br, fun _ _ h => br_inj h⟩
def clEmb : Dev nD × Fin 6 × Fin 8 ↪ GSem nD τ sig :=
  ⟨fun p => cl p.1 p.2.1 p.2.2, fun _ _ h => Prod.ext (cl_inj h).1 (Prod.ext (cl_inj h).2.1 (cl_inj h).2.2)⟩

abbrev brCells : Finset (GSem nD τ sig) := Finset.univ.map brEmb
abbrev clCells : Finset (GSem nD τ sig) := Finset.univ.map clEmb

theorem cells_disjoint : Disjoint (brCells : Finset (GSem nD τ sig)) clCells := by
  rw [Finset.disjoint_left]
  rintro g h₁ h₂
  obtain ⟨c, -, rfl⟩ := Finset.mem_map.mp h₁
  obtain ⟨p, -, h⟩ := Finset.mem_map.mp h₂
  exact br_ne_cl _ _ _ _ h.symm

/-- The duties: two at every barrier, one at every other cell. -/
def dutyEmb : (Dev nD × Bool) ⊕ (Dev nD × Fin 6 × Fin 8) ↪ GSem nD τ sig × ℕ × Bool where
  toFun | .inl p => (br p.1, 0, p.2) | .inr p => (cl p.1 p.2.1 p.2.2, 0, false)
  inj' a b h := by
    rcases a with a | a <;> rcases b with b | b
    · exact congrArg Sum.inl (Prod.ext (br_inj (congrArg Prod.fst h)) (congrArg (fun x : GSem nD τ sig × ℕ × Bool => x.2.2) h))
    · exact absurd (congrArg Prod.fst h) (br_ne_cl _ _ _ _)
    · exact absurd (congrArg Prod.fst h).symm (br_ne_cl _ _ _ _)
    · exact congrArg Sum.inr (clEmb.injective (congrArg Prod.fst h))

abbrev dutySet : Finset (GSem nD τ sig × ℕ × Bool) := Finset.univ.map dutyEmb

/-- Which device's cell a duty token belongs to. -/
def payB (p : Dev nD × Bool) : Dev nD × Bool := (match p.2 with | false => yn p.1 | true => xn p.1, p.2)
def toward (k : Fin 6) (d : Dev nD) : Dev nD :=
  match k with | 0 => d | 1 => yn d | 2 => d | 3 => yn d | 4 => d | 5 => xn d
def payC (p : Dev nD × Fin 6 × Fin 8) : Dev nD × Fin 6 × Fin 8 := (toward p.2.1 p.1, p.2)

theorem payB_inv : Function.Involutive payB := fun ⟨d, b⟩ => by
  cases b
  · exact Prod.ext (yn_yn d) rfl
  · exact Prod.ext (xn_xn d) rfl
theorem payC_inv : Function.Involutive payC := fun ⟨d, k, i⟩ => Prod.ext (by
  show toward k (toward k d) = d
  fin_cases k
  · rfl
  · exact yn_yn d
  · rfl
  · exact yn_yn d
  · rfl
  · exact xn_xn d) rfl

theorem bigSep_bool (Ψ : Bool → sProp 𝕄) : bigSep Finset.univ Ψ = (iprop(Ψ false ∗ Ψ true) : sProp 𝕄) := by
  rw [show (Finset.univ : Finset Bool) = {false, true} from by decide, bigSep_insert (by decide), bigSep_singleton]; rfl

/-- A device's six tokens of one chunk. -/
def dts (d : Dev nD) (i : Fin 8) : sProp 𝕄 :=
  iprop(dutyTok ER (cl d 0 i) 0 false ∗ dutyTok ER (cl (yn d) 1 i) 0 false
      ∗ dutyTok ER (cl d 2 i) 0 false ∗ dutyTok ER (cl (yn d) 3 i) 0 false
      ∗ dutyTok ER (cl d 4 i) 0 false ∗ dutyTok ER (cl (xn d) 5 i) 0 false)

/-- Every token dealt to the device that uses it. -/
theorem deal_toks : bigSep dutySet (fun x => (dutyTok ER x.1 x.2.1 x.2.2 : sProp 𝕄))
    = bigSep Finset.univ fun d : Dev nD => (iprop((dutyTok ER (br (yn d)) 0 false ∗ dutyTok ER (br (xn d)) 0 true)
        ∗ bigSep Finset.univ (dts (F := F) d)) : sProp 𝕄) := by
  have h1 : bigSep Finset.univ (fun p : Dev nD × Bool => (dutyTok ER (br p.1) 0 p.2 : sProp 𝕄))
      = bigSep Finset.univ fun d : Dev nD => (iprop(dutyTok ER (br (yn d)) 0 false ∗ dutyTok ER (br (xn d)) 0 true) : sProp 𝕄) := by
    rw [BI.bigSep_univ_equiv payB_inv.toPerm, BI.bigSep_univ_prod]
    exact BI.bigSep_congr fun d _ => bigSep_bool _
  have h2 : bigSep Finset.univ (fun p : Dev nD × Fin 6 × Fin 8 => (dutyTok ER (cl p.1 p.2.1 p.2.2) 0 false : sProp 𝕄))
      = bigSep Finset.univ fun d : Dev nD => bigSep Finset.univ (dts (F := F) d) := by
    rw [BI.bigSep_univ_equiv payC_inv.toPerm, BI.bigSep_univ_prod]
    exact BI.bigSep_congr fun d _ => six fun k i => (dutyTok ER (cl (toward k d) k i) 0 false : sProp 𝕄)
  rw [BI.bigSep_map, BI.bigSep_univ_sum, bigSep_sep']
  exact congrArg₂ (fun a b : sProp 𝕄 => (iprop(a ∗ b) : sProp 𝕄)) h1 h2

end Cert.KernelIdeal.Attn
-- ==== Proof.Launch.lean ====
module

public import proofs.«01_k».proof.Proof.Deal
public import proofs.«01_k».proof.Proof.Gen.KernelIdeal.Frame

/-!
# The run of the whole program

The region between the host reshapes, started from the launch and read at the end.
-/
@[expose] public section

open Idealize.ShloMosaic Idealize.ShloMosaic.TcCoe
open Idealize.SL
open Idealize.SL.BI (sProp bigSep bigSep_sep' bigSep_singleton bigSep_insert)
open scoped Idealize.SL.BI
open Idealize.SL.BI.BIBase Idealize.SL.BI.Laws Idealize.SL.ProofMode Idealize.SL.Sem
open Idealize.SL.RA
open Idealize.ShloMosaic.Rounds
open Cert.KernelIdeal Cert.KernelIdeal.Gen

set_option synthInstance.maxSize 4096

noncomputable section

namespace Cert.KernelIdeal.Attn

variable {F : FTy → Type} [FloatOps F] [Named F]

local notation "𝕄" => MT nD τ sig Unit (Elt F) ℕ UU ℕ

variable (m : (ℓ : Loc nD τ sig) → Buf (Elt F) ℓ) (ρ : Dev nD → PrngReg)

/-! ## From the launch to the first segment -/

/-- What device `c` holds besides its buffers before the region. -/
def R₀ (c : Dev nD) : sProp 𝕄 := iprop((∃ r, prngReg c r) ∗ Tk m c ∗ ∃ W, owes (c : Thread nD τ) (O₀ c) W)
abbrev uc : Finset (DevRef τ sig) := Pipeline.ucRefs τ sig
abbrev T₀ (c : Dev nD) : sProp 𝕄 := iprop(StableHlo.held (c : Thread nD τ) uc (V₀ m c) ∗ R₀ m c)

def u₀ : UU :=
  (initOf (Pipeline.cells (Pipeline.pin (pcfgs (F := F)) adm) cellOf_inj) (Pipeline.launchToks (Pipeline.pin (pcfgs (F := F)) adm) cellOf_inj),
    launchOf brCells clCells dutySet)

/-- The protocol's launch element, parked on the first device. -/
def G (c : Dev nD) : sProp 𝕄 := if c = 0 then BI.own (ER (launchOf brCells clCells dutySet)) else iprop(emp)
theorem G_all : bigSep Finset.univ (G (F := F)) = BI.own (ER (launchOf brCells clCells dutySet)) := by
  rw [BI.bigSep_univ_at _ 0, BI.bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact sep_emp_eq _

theorem sems_eq (c : Dev nD) : (unscopedSems0 c : sProp 𝕄) = semVal (br c) 0 := by
  unfold unscopedSems0
  rw [show (Finset.univ.filter fun sm : SemLoc sig => ¬ sm.isScoped .tc) = {SemLoc.reg barS} from by decide +kernel, bigSep_singleton]

/-- A device's own part of the ghost state, and the rest of what it starts with. -/
def own₀ (c : Dev nD) : sProp 𝕄 :=
  iprop(atPos ER (br c) 0 ∅ 0 ∗ bigSep Finset.univ (fun p : Fin 6 × Fin 8 => openTok ER (cl c p.1 p.2))
    ∗ (dutyTok ER (br (yn c)) 0 false ∗ dutyTok ER (br (xn c)) 0 true) ∗ bigSep Finset.univ (dts (F := F) c))
def rest₀ (c : Dev nD) : sProp 𝕄 :=
  iprop(StableHlo.held (c : Thread nD τ) uc (V₀ m c) ∗ (cred (tallyAt (br c) () 2) ∗ bigSep Finset.univ (crs (F := F) c))
    ∗ owes (c : Thread nD τ) (O₀ c) ∅ ∗ ∃ r, prngReg c r)

theorem start_one (κ : GSem nD τ sig → ℕ) (c : Dev nD) :
    (iprop(env (Km m) (Vm m) κ ∗ (own₀ c ∗ rest₀ m c)) : sProp 𝕄) ⊢ T₀ m c := by
  unfold own₀ rest₀ T₀ R₀ Tk barA
  iintro ⟨#HE, ⟨Hb, Ho, ⟨HtY, HtX⟩, Ht⟩, Hh, ⟨Hbc, Hc⟩, HO, Hp⟩
  isplitl [Hh]; · iexact Hh
  isplitl [Hp]; · iexact Hp
  isplitr [HO]
  · iexists κ
    isplitr; · iexact HE
    isplitl [Hb HtY HtX Hbc]
    · isplitl [Hb]; · iexact Hb
      isplitl [HtY]; · iexact HtY
      isplitl [HtX] <;> iassumption
    isplitl [Ht Hc]
    · iapply (Entails.of_eq (bigSep_sep' Finset.univ (dts (F := F) c) (crs (F := F) c)).symm)
      isplitl [Ht] <;> iassumption
    iexact Ho
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(rest₀ m c ∗ (semVal (br c) 0 ∗ G c)) : sProp 𝕄) := by
    rw [show unscopedBufs c (fun b => m ((c : Thread nD τ).loc b)) = StableHlo.held (c : Thread nD τ) uc (V₀ m c) from
      Pipeline.unscopedBufs_held c (V₀ m c), sems_eq]
    unfold rest₀
    iintro ⟨Hh, Hs, HO, Hc, Hp, HG⟩
    ihave Hc := (creds (F := F) c) $$ Hc
    isplitl [Hh HO Hc Hp]
    · isplitl [Hh]; · iexact Hh
      isplitl [Hc]; · iexact Hc
      isplitl [HO]; · iexact HO
      iexists (ρ c); iexact Hp
    isplitl [Hs] <;> iassumption
  have hv : bigSep Finset.univ (fun c : Dev nD => (semVal (br c) 0 : sProp 𝕄)) ⊢ bigSep brCells (fun g => (semVal g 0 : sProp 𝕄)) :=
    Entails.of_eq (BI.bigSep_map (s := Finset.univ) brEmb (Φ := fun g : GSem nD τ sig => (semVal g 0 : sProp 𝕄))).symm
  have hat : bigSep brCells (fun g => (atPos ER g 0 ∅ 0 : sProp 𝕄)) ⊢ bigSep Finset.univ (fun c : Dev nD => (atPos ER (br c) 0 ∅ 0 : sProp 𝕄)) :=
    Entails.of_eq (BI.bigSep_map (s := Finset.univ) brEmb (Φ := fun g : GSem nD τ sig => (atPos ER g 0 ∅ 0 : sProp 𝕄)))
  have hre : bigSep brCells (fun g => (reached ER g 0 : sProp 𝕄)) ⊢ bigSep Finset.univ (fun c : Dev nD => (reached ER (br c) 0 : sProp 𝕄)) :=
    Entails.of_eq (BI.bigSep_map (s := Finset.univ) brEmb (Φ := fun g : GSem nD τ sig => (reached ER g 0 : sProp 𝕄)))
  have hop : bigSep clCells (fun g => (openTok ER g : sProp 𝕄))
      ⊢ bigSep Finset.univ (fun c : Dev nD => bigSep Finset.univ (fun p : Fin 6 × Fin 8 => (openTok ER (cl c p.1 p.2) : sProp 𝕄))) :=
    Entails.of_eq (by rw [BI.bigSep_map, BI.bigSep_univ_prod]; rfl)
  have hinv (κ : GSem nD τ sig → ℕ) : (bigSep (brCells ∪ clCells) fun g => (cellInv ER (sched (Km m) (Vm m)) (κ g) g : sProp 𝕄))
      ⊢ iprop(bigSep Finset.univ (fun d : Dev nD => cellInv ER (sched (Km m) (Vm m)) (κ (br d)) (br d))
        ∗ bigSep Finset.univ (fun p : Dev nD × Fin 6 × Fin 8 =>
          cellInv ER (sched (Km m) (Vm m)) (κ (cl p.1 p.2.1 p.2.2)) (cl p.1 p.2.1 p.2.2))) :=
    Entails.of_eq (by rw [BI.bigSep_union cells_disjoint, BI.bigSep_map, BI.bigSep_map]; rfl)
  iintro ⟨H, #HL⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(rest₀ m c ∗ (semVal (br c) 0 ∗ G c)) : sProp 𝕄) from BI.bigSep_mono fun c _ => hcore c) $$ H
  ihave H2 := (Entails.of_eq (bigSep_sep' Finset.univ _ _)) $$ H'; icases H2 with ⟨HB, H3⟩
  ihave H4 := (Entails.of_eq (bigSep_sep' Finset.univ _ _)) $$ H3; icases H4 with ⟨Hv, HG⟩
  ihave Hu := (Entails.of_eq (G_all (F := F))) $$ HG
  imod (Rounds.fund_launch ER (sched (Km m) (Vm m)) cells_disjoint (fun g _ h => h) dutySet) $$ [Hv Hu] with ⟨%κ, -, #Hinv, #Hr, Hat, Hopen, Htok⟩
  · isplitl [Hv]
    · iapply hv $$ Hv
    · iexact Hu
  imodintro
  iapply (BI.bigSep_with_persistent (R := env (Km m) (Vm m) κ) (Φ := fun c => iprop(own₀ c ∗ rest₀ m c)) fun c _ => start_one m κ c)
  isplitr
  · unfold env
    ihave Hi := (hinv κ) $$ Hinv
    icases Hi with ⟨#H1, #H2⟩
    isplitr; · iexact H1
    isplitr; · iexact H2
    isplitr; · iapply hre $$ Hr
    iexact HL
  iapply (Entails.of_eq (bigSep_sep' Finset.univ _ _).symm)
  isplitr [HB]
  · unfold own₀
    iapply (Entails.of_eq (bigSep_sep' Finset.univ _ _).symm); isplitl [Hat]; · iapply hat $$ Hat
    iapply (Entails.of_eq (bigSep_sep' Finset.univ _ _).symm); isplitl [Hopen]; · iapply hop $$ Hopen
    iapply (Entails.of_eq (deal_toks (F := F))) $$ Htok
  · iexact HB

/-! ## The segments -/

/-- The buffers after the region, and at the end. -/
def V₂ (c : Dev nD) : Valuation τ sig (Elt F) := Pipeline.withArrays spec0 c (V₁ m c) fun w => (dat m c).arrAt w cfg0.N
def V₃ (c : Dev nD) : Valuation τ sig (Elt F) := StableHlo.after hostOps1 (V₂ m c)

theorem ops0_sub : ∀ op ∈ (hostOps0 : List (HloOp τ sig (Elt F))), op.bufs ⊆ uc :=
  fun op h => Pipeline.sub_ucRefs op (List.forall_iff_forall_mem.mp hostOps0_sub op h)
theorem ops1_sub : ∀ op ∈ (hostOps1 : List (HloOp τ sig (Elt F))), op.bufs ⊆ uc :=
  fun op h => Pipeline.sub_ucRefs op (List.forall_iff_forall_mem.mp hostOps1_sub op h)

abbrev arrs : Finset (DevRef τ sig) := Pipeline.arrRefs (τ := τ) spec0
theorem arrs_sub : arrs ⊆ uc := Pipeline.arrRefs_sub_ucRefs spec0 (by decide)

theorem V₂_rest (c : Dev nD) (b : DevRef τ sig) (hb : b ∈ (uc \ arrs) \ ∅) : V₂ m c b = V₁ m c b := by
  have h := (Finset.mem_sdiff.mp (Finset.mem_sdiff.mp hb).1).2
  unfold V₂ Pipeline.withArrays
  rw [dif_neg]
  rintro ⟨w, rfl⟩
  exact h (Finset.mem_map_of_mem _ (Finset.mem_image_of_mem _ (Finset.mem_univ w)))

def R₁ (c : Dev nD) : sProp 𝕄 := iprop(Yk c ∗ ∃ W, owes (c : Thread nD τ) (0 : CellTallies nD τ sig Unit) W)

def seg0 : Pipeline.HostSeg (Ix := Unit) (Name := ℕ) (U := UU) (Lvl := ℕ) (pcfgs (F := F)) defs₀ 𝒱₀ L lv :=
  Pipeline.HostSeg.ofOps _ _ _ _ _ uc hostOps0 ops0_sub (List.forall_iff_forall_mem.mp hostOps0_fresh) (V₀ m) (R₀ m)
def seg1 : Pipeline.HostSeg (Ix := Unit) (Name := ℕ) (U := UU) (Lvl := ℕ) (pcfgs (F := F)) defs₀ 𝒱₀ L lv :=
  Pipeline.HostSeg.ofOps _ _ _ _ _ uc hostOps1 ops1_sub (List.forall_iff_forall_mem.mp hostOps1_fresh) (V₂ m) R₁

theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (Pipeline.scopedRest (Ix := Unit) (Name := ℕ) (U := UU) (Lvl := ℕ) (Val := Elt F) (Pipeline.pin (pcfgs (F := F)) adm 0).spec c : sProp 𝕄) = scr c from scopedRest0_eq c,
    show (pdats m 0 c).Φ 0 = iprop(Xk m c ∗ scr c ∗ ∃ r, prngReg c r) from rfl]
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (Pipeline.scopedRest (Ix := Unit) (Name := ℕ) (U := UU) (Lvl := ℕ) (Val := Elt F) (Pipeline.pin (pcfgs (F := F)) adm 0).spec c : sProp 𝕄) = scr c from scopedRest0_eq c,
    show (pdats m 0 c).Φ (Fin.last _) = phi m c (t0_0.val + 1) from rfl,
    show StableHlo.held (c.tc : Thread nD τ) ∅ (V₂ m c) = (BI.emp : sProp 𝕄) from BI.bigSep_empty]
  unfold phi
  iintro ⟨⟨Hs, HY⟩, Hr, Hp⟩
  isplitl [Hr]; · iexact Hr
  isplitl [Hp]; · iexact Hp
  isplitr; · iempintro
  isplitl [Hs] <;> iassumption

theorem cutD (c : Dev nD) (t : Fin ((Pipeline.pin (pcfgs (F := F)) adm 0).N + 1)) (g : GSem nD τ sig) (i : Unit)
    (h : 0 < (pdats m 0 c).owed t g i) : i ∈ L g ∧ 0 < lv g i := by
  have h' : 0 < owe c t.val g i := h
  generalize t.val = n at h'
  cases n with
  | zero => exact O₀_pos h'
  | succ n => exact absurd h' (Nat.lt_irrefl 0)

theorem lv_st (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) () ≤ 0 := by
  have h : (((Pipeline.pin (pcfgs (F := F)) adm 0).win w).sem s).val < 4 :=
    (by decide : ∀ (w : Fin 4) (s : Fin (spec0 w).nbuf), ((spec0 w).sem s).val < 4) w s
  show (if _ then 0 else _) ≤ 0
  rw [if_pos h]

theorem arr_in (c : Dev nD) (w : Fin cfg0.W) : (dat m c).arrAt w 0 = V₁ m c (Proc.devRef .tc (Pipeline.arrRef spec0 w)) := rfl
theorem arr_out (c : Dev nD) (w : Fin cfg0.W) : (dat m c).arrAt w cfg0.N = V₂ m c (Proc.devRef .tc (Pipeline.arrRef spec0 w)) :=
  (Pipeline.withArrays_arr spec0 winFacts0.arr_inj c (V₁ m c) (fun w => (dat m c).arrAt w cfg0.N) w).symm

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ (uc \ arrs) (Finset.empty_subset _) launch0.toP rfl (fun c => (body_ob m c).loose)
    (fun _ => 0) O₀ (fun c => (zero_add (O₀ c)).symm) (fun _ => rfl) (fun _ => rfl) (fun _ w => ite_self _)
    (V₁ m) (V₂ m) (V₂_rest m)
    (Tk m) Yk (Xk m) Yk (hopen m) (hin m) (hout m)
    (fun c => by iintro H; imodintro; iexact H)
    (fun _ => 0)
    ⟨fun c w s => by rw [L_tc]; exact Finset.mem_singleton_self _, lv_st, cutD m⟩
    (fun _ => iprop(emp))
    (arr_in m) (arr_out m)

theorem held_both (c : Dev nD) (W : Valuation τ sig (Elt F)) : (StableHlo.held (c : Thread nD τ) uc W : sProp 𝕄)
    = iprop(StableHlo.held (c : Thread nD τ) arrs W ∗ StableHlo.held (c : Thread nD τ) (uc \ arrs) W) :=
  StableHlo.held_sub_split _ arrs_sub W

theorem reg_pre (c : Dev nD) : iprop(StableHlo.held (c : Thread nD τ) uc (V₁ m c) ∗ R₀ m c) ⊢ (reg m).pre c := by
  show _ ⊢ iprop(StableHlo.held (c.tc : Thread nD τ) arrs (V₁ m c) ∗ (∃ r, prngReg c r)
    ∗ (StableHlo.held (c.tc : Thread nD τ) (uc \ arrs) (V₁ m c) ∗ emp) ∗ Tk m c ∗ ∃ Wd, owes (c : Thread nD τ) (0 + O₀ c) Wd)
  rw [held_both, zero_add]
  unfold R₀
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) uc (V₂ m c) ∗ R₁ c) := by
  show iprop(StableHlo.held (c.tc : Thread nD τ) arrs (V₂ m c) ∗ (∃ r, prngReg c r)
    ∗ (StableHlo.held (c.tc : Thread nD τ) (uc \ arrs) (V₂ m c) ∗ emp) ∗ Yk c ∗ ∃ Wd, owes (c : Thread nD τ) (0 : CellTallies nD τ sig Unit) Wd) ⊢ _
  rw [held_both]
  unfold R₁
  iintro ⟨Ha, -, ⟨Hr, -⟩, HY, HO⟩
  isplitl [Ha Hr]; · isplitl [Ha] <;> iassumption
  isplitl [HY] <;> iassumption

def segs : List (Pipeline.Seg (pcfgs (F := F)) adm (pdats m) () defs₀ 𝒱₀ L lv) := [.host (seg0 m), .region (reg m), .host (seg1 m)]

theorem main_eq (c : Dev nD) : main (F := F) c = Pipeline.Seg.run (segs m) :=
  main_segs adm (pdats m) () 𝒱₀ L lv (seg0 m) (seg1 m) (reg m) rfl rfl c

abbrev Tₙ (c : Dev nD) : sProp 𝕄 := iprop(StableHlo.held (c : Thread nD τ) uc (V₃ m c) ∗ semVal (br c) 0)

/-! ## Reading the end -/

/-- The program's arguments and its result. -/
abbrev ends : Finset (DevRef τ sig) := {Proc.devRef .tc main_arg0, Proc.devRef .tc main_arg1, Proc.devRef .tc main_arg2, Proc.devRef .tc main_v8}
theorem ends_sub : ends ⊆ uc := by decide +kernel
theorem held_ends (c : Dev nD) (W : Valuation τ sig (Elt F)) : (StableHlo.held (c : Thread nD τ) uc W : sProp 𝕄)
    = iprop(((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_v8) ↦{fullShare} W (Proc.devRef .tc main_v8)))
      ∗ StableHlo.held (c : Thread nD τ) (uc \ ends) W) := by
  rw [StableHlo.held_sub_split _ ends_sub W]
  congr 1
  unfold StableHlo.held
  rw [bigSep_insert (by decide), bigSep_insert (by decide), bigSep_insert (by decide), bigSep_singleton]
  rfl

theorem V₃_of (c : Dev nD) (b : Ref sig .tc) (h5 : b ≠ main_v8) (h : ∀ w, Pipeline.arrRef spec0 w ≠ b) (h1 : b ≠ main_v1)
    (h2 : b ≠ main_v2) (h3 : b ≠ main_v3) (h4 : b ≠ main_v4) (h6 : b ≠ main_v5) (h7 : b ≠ main_v6) :
    V₃ m c (Proc.devRef .tc b) = m ((c : Thread nD τ).loc b) := by
  have ne : ∀ {x y : Ref sig .tc}, x ≠ y → (Proc.devRef .tc x : DevRef τ sig) ≠ Proc.devRef .tc y := fun hn => StableHlo.devRef_ne_of_ne hn
  have e1 : V₃ m c (Proc.devRef .tc b) = V₂ m c (Proc.devRef .tc b) :=
    StableHlo.after_of_forall_not_mem _ _ (List.forall_iff_forall_mem.mp (by
      simp only [hostOps1, List.Forall, StableHlo.reshape_writes, Finset.mem_singleton]
      exact ne h5))
  have e2 : V₂ m c (Proc.devRef .tc b) = V₁ m c (Proc.devRef .tc b) := Pipeline.withArrays_of_ne spec0 c _ _ b h
  have e3 : V₁ m c (Proc.devRef .tc b) = V₀ m c (Proc.devRef .tc b) :=
    StableHlo.after_of_forall_not_mem _ _ (List.forall_iff_forall_mem.mp (by
      simp only [hostOps0, List.Forall, StableHlo.reshape_writes, StableHlo.unary_writes, Finset.mem_singleton]
      exact ⟨ne h1, ne h2, ne h3, ne h4, ne h6, ne h7⟩))
  exact e1.trans (e2.trans e3)

theorem V₃_arg0 (c : Dev nD) : V₃ m c (Proc.devRef .tc main_arg0) = m ((c : Thread nD τ).loc main_arg0) :=
  V₃_of m c main_arg0 (by decide) (by decide) (by decide) (by decide) (by decide) (by decide) (by decide) (by decide)
theorem V₃_arg1 (c : Dev nD) : V₃ m c (Proc.devRef .tc main_arg1) = m ((c : Thread nD τ).loc main_arg1) :=
  V₃_of m c main_arg1 (by decide) (by decide) (by decide) (by decide) (by decide) (by decide) (by decide) (by decide)
theorem V₃_arg2 (c : Dev nD) : V₃ m c (Proc.devRef .tc main_arg2) = m ((c : Thread nD τ).loc main_arg2) :=
  V₃_of m c main_arg2 (by decide) (by decide) (by decide) (by decide) (by decide) (by decide) (by decide) (by decide)

theorem unscoped_eq : ∀ sm : SemLoc sig, sm.isScoped .tc = false → sm = .reg barS := by decide +kernel

set_option backward.isDefEq.respectTransparency.types false in
/-- Every execution ends, with the arguments as launched, the result computed, and every semaphore at zero. -/
theorem run_main : θ_run defs (onTc (τ := τ) (main (F := F))) ⟨m, fun _ => 0, ρ⟩
    (fun r => (∀ c : Dev nD, r.2.mem ((c : Thread nD τ).loc main_v8) = V₃ m c (Proc.devRef .tc main_v8)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => reg_pre m c, fun c => reg_post m c, fun c => ?_⟩
      show iprop(StableHlo.held (c : Thread nD τ) uc (V₃ m c) ∗ R₁ c)
        ⊢ iprop(Tₙ m c ∗ ∃ W, owes (c : Thread nD τ) (0 : CellTallies nD τ sig Unit) W)
      unfold R₁ Yk
      iintro ⟨Hh, Hb, HO⟩
      isplitr [HO]
      · isplitl [Hh] <;> iassumption
      · iexact HO)
    (hinit := init m ρ)
    (QY := fun c s => (s.mem ((c : Thread nD τ).loc main_arg0) = V₃ m c (Proc.devRef .tc main_arg0)
        ∧ s.mem ((c : Thread nD τ).loc main_arg1) = V₃ m c (Proc.devRef .tc main_arg1)
        ∧ s.mem ((c : Thread nD τ).loc main_arg2) = V₃ m c (Proc.devRef .tc main_arg2)
        ∧ s.mem ((c : Thread nD τ).loc main_v8) = V₃ m c (Proc.devRef .tc main_v8)) ∧ s.sem (br c) = 0)
    (hfin := fun c s' => by
      dsimp only [Tₙ]; rw [held_ends]
      iintro ⟨⟨⟨⟨H0, H1, H2, H5⟩, -⟩, Hb⟩, HSI⟩
      icombine HSI H0 gives %h0
      icombine HSI H1 gives %h1
      icombine HSI H2 gives %h2
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h5⟩, by simpa using hb⟩
      iexact HSI)
    (hQ := fun s h hs => ⟨fun c => by
        obtain ⟨⟨h0, h1, h2, h5⟩, -⟩ := h c
        rw [V₃_arg0] at h0; rw [V₃_arg1] at h1; rw [V₃_arg2] at h2
        exact ⟨h5, h0, h1, h2⟩,
      sem_eq_zero hs fun c sm hsm => by
        obtain rfl := unscoped_eq sm hsm
        exact (h c).2⟩)

/-! ## The result -/

theorem whole3 : (cfg0.win 3).WholeAt (t0_0 : Fin cfg0.N) := by decide +kernel

/-- The region leaves the blocks' output in its result array. -/
theorem V₂_out (c : Dev nD) : V₂ m c (Proc.devRef .tc main_v7) = outF (Qm m) (Km m) (Vm m) c :=
  (arr_out m c 3).symm.trans ((dat m c).arrAt_eq_of_after_last 3 t0_0 whole3 (outF (Qm m) (Km m) (Vm m) c) (fun j => rfl))

end Cert.KernelIdeal.Attn
-- ==== Proof.Frames.lean ====
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Proof.Gen.Pre_finite_qk_KernelIdeal
public import proofs.«01_k».proof.Proof.Gen.Pre_finite_qk_ReferenceIdeal

/-!
# The frames

The one run, read at the bits and at the reals; and the reference's run.
-/

@[expose] public section

open Idealize.ShloMosaic Idealize.ShloMosaic.TcCoe
open Idealize.SL.Sem

noncomputable section

namespace Cert.Proof

/-- At the bits a named constant is the constant as printed. -/
local instance namedBits : Named Bits where
  named _ _ {φ} bits := FloatOps.ofBits φ bits

/-- The two body tables are one. -/
theorem bodies_eq : Cert.Kernel.defs₀ (F := Bits) = Cert.KernelIdeal.defs₀ (F := Bits) := by
  unfold Cert.Kernel.defs₀ Cert.KernelIdeal.defs₀
  congr 1
  funext l x
  match l, x with
  | 0, (t, s) => rfl

theorem defs_eq : Cert.Kernel.defs (F := Bits) = Cert.KernelIdeal.defs (F := Bits) := by
  unfold Cert.Kernel.defs Cert.KernelIdeal.defs
  exact congrArg (Pipeline.defs _) bodies_eq

theorem frame_kernel : Cert.quiescent_Kernel := fun m ρ _ => by
  rw [defs_eq]
  exact (θ_run Cert.KernelIdeal.defs _ _).mono (fun _ h => ⟨fun c => (h.1 c).2, h.2⟩) (Cert.KernelIdeal.Attn.run_main (F := Bits) m ρ)

theorem frame_ideal : Cert.quiescent_KernelIdeal := fun m ρ _ =>
  (θ_run Cert.KernelIdeal.defs _ _).mono (fun _ h => ⟨fun c => (h.1 c).2, h.2⟩) (Cert.KernelIdeal.Attn.run_main (F := Ideal) m ρ)

theorem frame_ideal_pre : Cert.quiescent_KernelIdeal_pre_finite_qk_KernelIdeal := fun m ρ _ =>
  (θ_run Cert.KernelIdeal.defs _ _).mono (fun _ h => ⟨fun c => (h.1 c).2, h.2⟩) (Cert.KernelIdeal.Attn.run_main (F := Ideal) m ρ)

/-- The reference names no semaphore. -/
theorem no_sems (s : SemLoc Cert.ReferenceIdeal.sig) : False := by
  cases s <;> exact Fin.elim0 (by assumption)

theorem frame_ref : Cert.quiescent_ReferenceIdeal := fun m ρ _ =>
  (θ_run Cert.ReferenceIdeal.defs _ _).mono (fun _ h => ⟨fun c => (h c).2, funext fun g => (no_sems g.2).elim⟩)
    (Cert.ReferenceIdeal.Value.run (F := Ideal) m ρ)

theorem frame_ref_pre : Cert.quiescent_ReferenceIdeal_pre_finite_qk_ReferenceIdeal := fun m ρ _ =>
  (θ_run Cert.ReferenceIdeal.defs _ _).mono (fun _ h => ⟨fun c => (h c).2, funext fun g => (no_sems g.2).elim⟩)
    (Cert.ReferenceIdeal.Value.run (F := Ideal) m ρ)

theorem preserved : Cert.preserves_Kernel_KernelIdeal := IdealRules.named_const.statement _ _ _ _ _ rfl

end Cert.Proof
-- ==== Proof.Parts.lean ====
module

public import proofs.«01_k».proof.Proof.Body
public import Idealize.ShloMosaic.Lib.Pointwise

/-!
# The arithmetic of a block, over the reals

What one block of weights gives, entry by entry.
-/

@[expose] public section

open Idealize.ShloMosaic
open Cert.KernelIdeal Cert.KernelIdeal.Gen

noncomputable section

namespace Cert.KernelIdeal.Attn

/-- The scale's name, as a number. -/
abbrev kap : EReal := Named.named (F := Ideal) κ "qk_scale" (φ := .f32) 0x3E38AA3B#32

/-- The weight of a key for a query: two to the scaled product. -/
def wt (q k : Fin 64 → EReal) : EReal := Ideal.exp2 (∑ e : Fin 64, q e * kap * k e)

/-- The weight, from queries already scaled. -/
def wt' (q k : FVec Ideal S256x64 .bf16) (r t : Fin 256) : EReal := Ideal.exp2 (∑ e : Fin 64, q (ix2 r e) * k (ix2 t e))

theorem part_left (q k v : FVec Ideal S256x64 .bf16) (r : Fin 256) (c : Fin 128) (h : c.val < 64) :
    part q k v (ix2 r c) = ∑ t : Fin 256, wt' q k r t * v (ix2 t ⟨c.val, h⟩) := by
  pointwise [part, ones, wt', h]
  rfl

theorem part_right (q k v : FVec Ideal S256x64 .bf16) (r : Fin 256) (c : Fin 128) (h : ¬ c.val < 64) :
    part q k v (ix2 r c) = ∑ t : Fin 256, wt' q k r t := by
  pointwise [part, ones, wt', h]
  rfl

/-- Columns of a pair of heads: column `e` of head `j`. -/
def pc (j : Fin 2) (e : Fin 64) : Fin 128 := ⟨64 * j.val + e.val, by omega⟩

theorem scaled_lo (q : Vec Ideal S1x256x128 .bf16) (r : Fin 256) (e : Fin 64) :
    lo (scaled q) (ix2 r e) = q (ix3 0 r (pc 0 e)) * kap := by
  pointwise [lo, scaled, pc]
theorem scaled_hi (q : Vec Ideal S1x256x128 .bf16) (r : Fin 256) (e : Fin 64) :
    hi (scaled q) (ix2 r e) = q (ix3 0 r (pc 1 e)) * kap := by
  pointwise [hi, scaled, pc]
theorem mat_lo (q : Vec Ideal S1x256x128 .bf16) (r : Fin 256) (e : Fin 64) :
    lo (mat q) (ix2 r e) = q (ix3 0 r (pc 0 e)) := by
  pointwise [lo, mat, pc]
theorem mat_hi (q : Vec Ideal S1x256x128 .bf16) (r : Fin 256) (e : Fin 64) :
    hi (mat q) (ix2 r e) = q (ix3 0 r (pc 1 e)) := by
  pointwise [hi, mat, pc]
theorem rcol_at (o : Nat) (h : S256x2048.Slices ![0, o] S256x64) (x : Vec Ideal S1x256x2048 .bf16) (r : Fin 256) (e : Fin 64)
    (c : Fin 2048) (hc : c.val = o + e.val) : rcol o h x (ix2 r e) = x (ix3 0 r c) := by
  obtain ⟨c, hc'⟩ := c
  dsimp only at hc
  subst hc
  pointwise [rcol]

/-- The weight of row `t` of `k` for row `r` of `q`, head `j`. -/
def pw (q k : Vec Ideal S1x256x128 .bf16) (j : Fin 2) (r t : Fin 256) : EReal :=
  wt (fun e => q (ix3 0 r (pc j e))) (fun e => k (ix3 0 t (pc j e)))

theorem wt_lo (q k : Vec Ideal S1x256x128 .bf16) (r t : Fin 256) : wt' (lo (scaled q)) (lo (mat k)) r t = pw q k 0 r t := by
  simp only [wt', pw, wt, scaled_lo, mat_lo]
theorem wt_hi (q k : Vec Ideal S1x256x128 .bf16) (r t : Fin 256) : wt' (hi (scaled q)) (hi (mat k)) r t = pw q k 1 r t := by
  simp only [wt', pw, wt, scaled_hi, mat_hi]

/-- Columns of an accumulator block: the sums of head `j`, then its weights. -/
def vc (j : Fin 2) (e : Fin 64) : Fin 256 := ⟨128 * j.val + e.val, by omega⟩
def wc (j : Fin 2) (e : Fin 64) : Fin 256 := ⟨128 * j.val + 64 + e.val, by omega⟩

theorem locBlk_v (q k v : Vec Ideal S1x256x128 .bf16) (j : Fin 2) (r : Fin 256) (e : Fin 64) :
    locBlk q k v (ix4 0 0 r (vc j e)) = ∑ t : Fin 256, pw q k j r t * v (ix3 0 t (pc j e)) := by
  have he := e.isLt
  fin_cases j
  · pointwise [locBlk, vc]
    rw [dif_pos (by omega), part_left _ _ _ _ _ (by dsimp only; omega)]
    simp only [wt_lo, mat_lo]
  · pointwise [locBlk, vc]
    rw [part_left _ _ _ _ _ (by dsimp only; omega)]
    simp only [wt_hi, mat_hi]

theorem locBlk_w (q k v : Vec Ideal S1x256x128 .bf16) (j : Fin 2) (r : Fin 256) (e : Fin 64) :
    locBlk q k v (ix4 0 0 r (wc j e)) = ∑ t : Fin 256, pw q k j r t := by
  have he := e.isLt
  fin_cases j
  · pointwise [locBlk, wc]
    rw [dif_pos (by omega), part_right _ _ _ _ _ (by dsimp only; omega)]
    simp only [wt_lo]
  · pointwise [locBlk, wc]
    rw [dif_neg (by omega), part_right _ _ _ _ _ (by dsimp only; omega)]
    simp only [wt_hi]

theorem quo_at (a : Vec Ideal S1x1x256x128 .f32) (p : FVec Ideal S256x128 .f32) (r : Fin 256) (e : Fin 64) :
    quo a p (ix2 r e) = Ideal.div (a (ix4 0 0 r (pc 0 e)) + p (ix2 r (pc 0 e))) (a (ix4 0 0 r (pc 1 e)) + p (ix2 r (pc 1 e))) := by
  pointwise [quo, pc]

/-- Columns of a batch received: column `e` of head `j` of pair `h`, in the keys and in the values. -/
def kc (h : Fin 8) (j : Fin 2) (e : Fin 64) : Fin 2048 := ⟨128 * h.val + 64 * j.val + e.val, by omega⟩
def xc (h : Fin 8) (j : Fin 2) (e : Fin 64) : Fin 2048 := ⟨1024 + 128 * h.val + 64 * j.val + e.val, by omega⟩

/-- The weight of a received key. -/
def xw (h : Fin 8) (q : Vec Ideal S1x256x128 .bf16) (x : Vec Ideal S1x256x2048 .bf16) (j : Fin 2) (r t : Fin 256) : EReal :=
  wt (fun e => q (ix3 0 r (pc j e))) (fun e => x (ix3 0 t (kc h j e)))

theorem remBlk_at (h : Fin 8) (q : Vec Ideal S1x256x128 .bf16) (x : Vec Ideal S1x256x2048 .bf16) (a : Fin 2 → Vec Ideal S1x1x256x128 .f32)
    (j : Fin 2) (r : Fin 256) (e : Fin 64) :
    remBlk h q x (a 0) (a 1) (ix3 0 r (pc j e))
      = Ideal.div (a j (ix4 0 0 r (pc 0 e)) + ∑ t : Fin 256, xw h q x j r t * x (ix3 0 t (xc h j e)))
          (a j (ix4 0 0 r (pc 1 e)) + ∑ t : Fin 256, xw h q x j r t) := by
  have he := e.isLt
  have p0 : (pc 0 e).val < 64 := by simp [pc]
  have p1 : ¬ (pc 1 e).val < 64 := by simp [pc]
  have pe : (⟨(pc 0 e).val, p0⟩ : Fin 64) = e := by apply Fin.ext; simp [pc]
  fin_cases j
  · pointwise [remBlk]
    rw [dif_pos p0, pe, quo_at, part_left _ _ _ _ _ p0, part_right _ _ _ _ _ p1, pe]
    simp only [fun t => rcol_at _ (rcol_v0 h) x t e (xc h 0 e) (by simp [xc]), wt', scaled_lo,
      fun t e => rcol_at _ (rcol_k0 h) x t e (kc h 0 e) (by simp [kc])]
    rfl
  · pointwise [remBlk]
    have pe' : ∀ hh, (⟨(pc 1 e).val - 64, hh⟩ : Fin 64) = e := fun _ => by apply Fin.ext; simp [pc]
    rw [dif_neg p1, pe', quo_at, part_left _ _ _ _ _ p0, part_right _ _ _ _ _ p1, pe]
    simp only [fun t => rcol_at _ (rcol_v1 h) x t e (xc h 1 e) (by simp [xc]), wt', scaled_hi,
      fun t e => rcol_at _ (rcol_k1 h) x t e (kc h 1 e) (by simp [kc])]
    rfl

end Cert.KernelIdeal.Attn
-- ==== Proof.OutAt.lean ====
module

public import proofs.«01_k».proof.Proof.Parts
public import proofs.«01_k».proof.Proof.Steps

/-!
# The output, entry by entry

Each entry of a device's output, over the reals, is a quotient: the weighted sum of the values over the device's own keys
and over those of the device beside it, by the sum of the weights.
-/

@[expose] public section

open Idealize.ShloMosaic
open Cert.KernelIdeal Cert.KernelIdeal.Gen

noncomputable section

namespace Cert.KernelIdeal.Attn

variable (Q K V : Dev nD → S4x256x1024.Idx → Elt Ideal .bf16)

/-- Two indices of rank three, or four, are one if their coordinates are. -/
theorem ext3 {s : Fin 3 → Nat} {x y : (⟨3, s⟩ : Shape).Idx} (h0 : (x 0).val = (y 0).val) (h1 : (x 1).val = (y 1).val)
    (h2 : (x 2).val = (y 2).val) : x = y := by
  funext a
  apply Fin.ext
  fin_cases a
  · exact h0
  · exact h1
  · exact h2
theorem ext4 {s : Fin 4 → Nat} {x y : (⟨4, s⟩ : Shape).Idx} (h0 : (x 0).val = (y 0).val) (h1 : (x 1).val = (y 1).val)
    (h2 : (x 2).val = (y 2).val) (h3 : (x 3).val = (y 3).val) : x = y := by
  funext a
  apply Fin.ext
  fin_cases a
  · exact h0
  · exact h1
  · exact h2
  · exact h3

/-- Column `e` of head `j` of pair `h`. -/
def col (h : Fin 8) (j : Fin 2) (e : Fin 64) : Fin 1024 := ⟨128 * h.val + 64 * j.val + e.val, by omega⟩

/-- The weight device `s`'s key row `t` has for device `d`'s query row `r`. -/
def aw (d s : Dev nD) (b : Fin 4) (h : Fin 8) (j : Fin 2) (r t : Fin 256) : EReal :=
  wt (fun e => Q d (ix3 b r (col h j e))) (fun e => K s (ix3 b t (col h j e)))

theorem hd_at (f : S4x256x1024.Idx → Elt Ideal .bf16) (n : Fin 32) (b : Fin 4) (h : Fin 8) (j : Fin 2) (r : Fin 256) (e : Fin 64)
    (hn : n.val = 8 * b.val + h.val) : rd (hdR n) f (ix3 0 r (pc j e)) = f (ix3 b r (col h j e)) := by
  have hb := h.isLt
  refine congrArg f (ext3 ?_ ?_ ?_)
  · show n.val / 8 + 1 * 0 = b.val
    omega
  · show 0 + 1 * r.val = r.val
    omega
  · show 128 * (n.val % 8) + 1 * (64 * j.val + e.val) = 128 * h.val + 64 * j.val + e.val
    omega

theorem acc_v (d : Dev nD) (b : Fin 4) (h : Fin 8) (j : Fin 2) (r : Fin 256) (e : Fin 64) :
    accF Q K V d (ix4 b h r (vc j e)) = ∑ t : Fin 256, aw Q K d d b h j r t * V d (ix3 b t (col h j e)) := by
  have hx : acI (ix4 b h r (vc j e)) = ix4 0 0 r (vc j e) := ext4 rfl rfl rfl rfl
  have hn : (acN (ix4 b h r (vc j e))).val = 8 * b.val + h.val := rfl
  unfold accF
  rw [hx]
  refine (locBlk_v _ _ _ j r e).trans (Finset.sum_congr rfl fun t _ => ?_)
  exact congrArg₂ (· * ·) (congrArg₂ wt (funext fun e => hd_at _ _ b h j r e hn) (funext fun e => hd_at _ _ b h j t e hn))
    (hd_at _ _ b h j t e hn)

theorem acc_w (d : Dev nD) (b : Fin 4) (h : Fin 8) (j : Fin 2) (r : Fin 256) (e : Fin 64) :
    accF Q K V d (ix4 b h r (wc j e)) = ∑ t : Fin 256, aw Q K d d b h j r t := by
  have hx : acI (ix4 b h r (wc j e)) = ix4 0 0 r (wc j e) := ext4 rfl rfl rfl rfl
  have hn : (acN (ix4 b h r (wc j e))).val = 8 * b.val + h.val := rfl
  unfold accF
  rw [hx]
  refine (locBlk_w _ _ _ j r e).trans (Finset.sum_congr rfl fun t _ => ?_)
  exact congrArg₂ wt (funext fun e => hd_at _ _ b h j r e hn) (funext fun e => hd_at _ _ b h j t e hn)

/-- Where batch `b` of what a device receives was sent from. -/
def src (d : Dev nD) (b : Fin 4) : Dev nD := if b.val / 2 = hf d then yn d else yn (xn d)

theorem rkv_k (d : Dev nD) (b : Fin 4) (h : Fin 8) (j : Fin 2) (t : Fin 256) (e : Fin 64) :
    rkvF K V d (ix3 b t (kc h j e)) = K (src d b) (ix3 b t (col h j e)) := by
  have hc : (kc h j e).val < 1024 := by simp only [kc]; omega
  refine (dif_pos hc).trans ?_
  exact congrArg (K _) (ext3 rfl rfl rfl)

theorem rkv_v (d : Dev nD) (b : Fin 4) (h : Fin 8) (j : Fin 2) (t : Fin 256) (e : Fin 64) :
    rkvF K V d (ix3 b t (xc h j e)) = V (src d b) (ix3 b t (col h j e)) := by
  have hc : ¬ (xc h j e).val < 1024 := by simp only [xc]; omega
  refine (dif_neg hc).trans ?_
  refine congrArg (V _) (ext3 rfl rfl ?_)
  show 1024 + 128 * h.val + 64 * j.val + e.val - 1024 = 128 * h.val + 64 * j.val + e.val
  omega

/-- An entry of the output. -/
theorem outF_at (d : Dev nD) (b : Fin 4) (h : Fin 8) (j : Fin 2) (r : Fin 256) (e : Fin 64) :
    outF Q K V d (ix3 b r (col h j e))
      = Ideal.div ((∑ t : Fin 256, aw Q K d d b h j r t * V d (ix3 b t (col h j e)))
            + ∑ t : Fin 256, aw Q K d (src d b) b h j r t * V (src d b) (ix3 b t (col h j e)))
          ((∑ t : Fin 256, aw Q K d d b h j r t) + ∑ t : Fin 256, aw Q K d (src d b) b h j r t) := by
  obtain ⟨k, hk⟩ : ∃ k : Fin 4, stW d k = b.val := by
    refine ⟨⟨(b.val + 4 - 2 * hf d) % 4, Nat.mod_lt _ (by decide)⟩, ?_⟩
    have := hf_lt d
    rw [stW_eq]
    dsimp only
    omega
  have hx : (ouR d k h).emb (ix3 0 r (pc j e)) = ix3 b r (col h j e) := by
    refine ext3 ?_ ?_ ?_
    · show stW d k + 1 * 0 = b.val
      omega
    · show 0 + 1 * r.val = r.val
      omega
    · show 128 * h.val + 1 * (64 * j.val + e.val) = 128 * h.val + 64 * j.val + e.val
      omega
  have hq : ∀ r e, rd (ouR d k h) (Q d) (ix3 0 r (pc j e)) = Q d (ix3 b r (col h j e)) := fun r e => by
    refine congrArg (Q d) (ext3 ?_ ?_ ?_)
    · show stW d k + 1 * 0 = b.val
      omega
    · show 0 + 1 * r.val = r.val
      omega
    · show 128 * h.val + 1 * (64 * j.val + e.val) = 128 * h.val + 64 * j.val + e.val
      omega
  have hr : ∀ t c, rd (rbR d k) (rkvF K V d) (ix3 0 t c) = rkvF K V d (ix3 b t c) := fun t c => by
    refine congrArg (rkvF K V d) (ext3 ?_ ?_ ?_)
    · show stW d k + 1 * 0 = b.val
      omega
    · show 0 + 1 * t.val = t.val
      omega
    · show 0 + 1 * c.val = c.val
      omega
  have ha : ∀ c : Fin 128, (![rd (a0R d k h) (accF Q K V d), rd (a1R d k h) (accF Q K V d)] : Fin 2 → Vec Ideal S1x1x256x128 .f32) j
      (ix4 0 0 r c) = accF Q K V d (ix4 b h r ⟨128 * j.val + c.val, by omega⟩) := fun c => by
    fin_cases j
    · refine congrArg (accF Q K V d) (ext4 ?_ ?_ ?_ ?_)
      · show stW d k + 1 * 0 = b.val
        omega
      · show h.val + 1 * 0 = h.val
        omega
      · show 0 + 1 * r.val = r.val
        omega
      · show 0 + 1 * c.val = 128 * 0 + c.val
        omega
    · refine congrArg (accF Q K V d) (ext4 ?_ ?_ ?_ ?_)
      · show stW d k + 1 * 0 = b.val
        omega
      · show h.val + 1 * 0 = h.val
        omega
      · show 0 + 1 * r.val = r.val
        omega
      · show 128 + 1 * c.val = 128 * 1 + c.val
        omega
  have ev : ∀ p, (⟨128 * j.val + (pc 0 e).val, p⟩ : Fin 256) = vc j e := fun p => Fin.ext (by simp [pc, vc])
  have ew : ∀ p, (⟨128 * j.val + (pc 1 e).val, p⟩ : Fin 256) = wc j e := fun p => Fin.ext (by simp [pc, wc]; omega)
  refine (congrArg (outF Q K V d) hx.symm).trans ((outF_emb Q K V d k h _).trans ?_)
  refine (remBlk_at h _ _ ![rd (a0R d k h) (accF Q K V d), rd (a1R d k h) (accF Q K V d)] j r e).trans ?_
  rw [ha, ha, ev, ew, acc_v, acc_w]
  simp only [xw, aw, hq, hr, rkv_k, rkv_v]

end Cert.KernelIdeal.Attn
-- ==== Proof.Softmax.lean ====
module

public import proofs.«01_k».proof.Proof.Parts

/-!
# Weights and their quotients, over the reals

A weight is the exponential of a score; shifting every score by one number, as the reference does by the row's maximum,
does not change a weighted mean.
-/

@[expose] public section

open Idealize.ShloMosaic
open Cert.KernelIdeal Cert.KernelIdeal.Gen

noncomputable section

namespace Cert.KernelIdeal.Attn

theorem kap_eq : kap = (((8 * (Real.log 2))⁻¹ : ℝ) : EReal) := IdealRules.named_const.ideal_named_scalar _ _ _ _ rfl

/-- Of real queries and keys, the score. -/
def score (q k : Fin 64 → ℝ) : ℝ := (∑ e : Fin 64, q e * k e) * (1 / 8)

theorem coe_sum {ι : Type} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

theorem sum_mul_coe {ι : Type} (s : Finset ι) (f : ι → EReal) (C : ℝ) (hC : 0 ≤ C) :
    (∑ i ∈ s, f i) * (C : EReal) = ∑ i ∈ s, f i * (C : EReal) := by
  classical
  induction s using Finset.induction_on with
  | empty => simp
  | insert i s hi ih =>
    rw [Finset.sum_insert hi, Finset.sum_insert hi, ← ih]
    exact EReal.right_distrib_of_nonneg_of_ne_top (EReal.coe_nonneg.2 hC) (EReal.coe_ne_top _) _ _

/-- Two to the scaled product is the exponential of the score. -/
theorem wt_coe (q k : Fin 64 → ℝ) :
    wt (fun e => (q e : EReal)) (fun e => (k e : EReal)) = ((Real.exp (score q k) : ℝ) : EReal) := by
  have hl : Real.log 2 ≠ 0 := (Real.log_pos one_lt_two).ne'
  have hs : (∑ e : Fin 64, (q e : EReal) * kap * (k e : EReal))
      = (((∑ e : Fin 64, q e * k e) * (8 * Real.log 2)⁻¹ : ℝ) : EReal) := by
    rw [Finset.sum_mul, ← coe_sum]
    refine Finset.sum_congr rfl fun e _ => ?_
    rw [kap_eq, ← EReal.coe_mul, ← EReal.coe_mul]
    congr 1
    ring
  unfold wt
  rw [hs, Ideal.exp2_coe]
  congr 1
  refine (Real.rpow_def_of_pos two_pos _).trans ?_
  congr 1
  unfold score
  field_simp

/-- A weighted mean by the weights `exp (s t)` is the one by the quotients of the weights `exp (s t - M)`. -/
theorem mean_shift {n : Nat} (hn : 0 < n) (s : Fin n → ℝ) (v : Fin n → EReal) (M : ℝ) :
    Ideal.div (∑ t, ((Real.exp (s t) : ℝ) : EReal) * v t) (∑ t, ((Real.exp (s t) : ℝ) : EReal))
      = ∑ t, v t * Ideal.div ((Real.exp (s t - M) : ℝ) : EReal) (∑ u, ((Real.exp (s u - M) : ℝ) : EReal)) := by
  haveI : Nonempty (Fin n) := ⟨⟨0, hn⟩⟩
  have hA : 0 < ∑ t, Real.exp (s t) := Finset.sum_pos (fun t _ => Real.exp_pos _) Finset.univ_nonempty
  have hB : 0 < ∑ t, Real.exp (s t - M) := Finset.sum_pos (fun t _ => Real.exp_pos _) Finset.univ_nonempty
  have hAB : ∑ t, Real.exp (s t) = Real.exp M * ∑ t, Real.exp (s t - M) := by
    rw [Finset.mul_sum]
    refine Finset.sum_congr rfl fun t _ => ?_
    rw [← Real.exp_add]
    congr 1
    ring
  rw [coe_sum, coe_sum, Ideal.div_coe hA.ne', sum_mul_coe _ _ _ (one_div_pos.2 hA).le]
  refine Finset.sum_congr rfl fun t _ => ?_
  rw [Ideal.div_coe hB.ne', ← EReal.coe_mul, mul_comm _ (v t), mul_assoc, ← EReal.coe_mul]
  congr 2
  have he : Real.exp (s t) = Real.exp M * Real.exp (s t - M) := by
    rw [← Real.exp_add]
    congr 1
    ring
  rw [hAB, he]
  field_simp

/-- The largest of finitely many reals, folded from `-∞`, is a real. -/
theorem fold_max_coe {n : Nat} (hn : 0 < n) (s : Fin n → ℝ) :
    ∃ M : ℝ, Finset.univ.fold max (⊥ : EReal) (fun t => (s t : EReal)) = (M : EReal) := by
  haveI : Nonempty (Fin n) := ⟨⟨0, hn⟩⟩
  refine ⟨Finset.univ.sup' Finset.univ_nonempty s, ?_⟩
  apply le_antisymm
  · rw [Finset.fold_max_le]
    exact ⟨bot_le, fun t _ => EReal.coe_le_coe_iff.2 (Finset.le_sup' s (Finset.mem_univ t))⟩
  · obtain ⟨t, _, ht⟩ := Finset.exists_mem_eq_sup' Finset.univ_nonempty s
    rw [ht, Finset.le_fold_max]
    exact Or.inr ⟨t, Finset.mem_univ t, le_rfl⟩

end Cert.KernelIdeal.Attn
-- ==== Proof.RefAt.lean ====
module

public import proofs.«01_k».proof.Proof.Softmax
public import proofs.«01_k».proof.Proof.Gen.ReferenceIdeal.Run

/-!
# The reference, entry by entry
-/

@[expose] public section

open Idealize.ShloMosaic Idealize.ShloMosaic.TcCoe Idealize.SL.Sem

noncomputable section

namespace Cert.ReferenceIdeal.At

open Cert.ReferenceIdeal Cert.ReferenceIdeal.Gen

variable (q k v : FVec Ideal S4x512x16x64 .f32)

/-- The reference's scores. -/
def scores : FVec Ideal S4x16x512x512 .f32 :=
  mulf (Host.dotGeneral dot_S4x512x16x64_S4x512x16x64_S4x16x512x512_3_3_1_1_02_02 none q k)
    (broadcastInDim S4x16x512x512 ![] bcast_S_S4x16x512x512 (constant S_ .f32 0x3E000000#32))

/-- Its weights: each row's maximum taken off before the exponential. -/
def weights : FVec Ideal S4x16x512x512 .f32 :=
  Host.exp (subf (scores q k) (broadcastInDim S4x16x512x512 ![0, 1, 2, 3] bcast_S4x16x512x1_S4x16x512x512_0_1_2_3
    (broadcastInDim S4x16x512x1 ![0, 1, 2] bcast_S4x16x512_S4x16x512x1_0_1_2
      (Host.reduce FloatOps.maximumf (scores q k) (constant S_ .f32 0xFF800000#32) reducesTo_S4x16x512x512_S4x16x512_d3 h_S_))))

/-- Its result. -/
def result : FVec Ideal S4x512x16x64 .f32 :=
  transpose S4x512x16x64 [0, 3, 1, 2] (Host.dotGeneral dot_S4x512x16x64_S4x16x512x512_S4x16x64x512_1_3_3_2_02_01 none v
    (Host.divf (weights q k) (broadcastInDim S4x16x512x512 ![0, 1, 2, 3] bcast_S4x16x512x1_S4x16x512x512_0_1_2_3
      (broadcastInDim S4x16x512x1 ![0, 1, 2] bcast_S4x16x512_S4x16x512x1_0_1_2
        (Host.reduceAdd (weights q k) (constant S_ .f32 0x00000000#32) reducesTo_S4x16x512x512_S4x16x512_d3 h_S_)))))
    transposes_S4x16x64x512_S4x512x16x64_0_3_1_2

theorem eighth : Ideal.ofBits .f32 0x3E000000#32 = ((1 / 8 : ℝ) : EReal) := by
  simp [Ideal.ofBits, Ideal.ieee, -EReal.coe_mul]
  norm_num

theorem lowest : Ideal.ofBits .f32 0xFF800000#32 = ⊥ := by
  simp [Ideal.ofBits, Ideal.ieee]

theorem scores_at (b : Fin 4) (n : Fin 16) (i t : Fin 512) :
    scores q k (ix4 b n i t) = (∑ e : Fin 64, q (ix4 b i n e) * k (ix4 b t n e)) * ((1 / 8 : ℝ) : EReal) := by
  rw [← eighth]
  pointwise [scores]

theorem weights_at (b : Fin 4) (n : Fin 16) (i t : Fin 512) :
    weights q k (ix4 b n i t) = Ideal.exp (scores q k (ix4 b n i t)
      - Finset.univ.fold max (⊥ : EReal) (fun u : Fin 512 => scores q k (ix4 b n i u))) := by
  rw [← lowest]
  pointwise [weights]

theorem result_at (b : Fin 4) (i : Fin 512) (n : Fin 16) (e : Fin 64) :
    result q k v (ix4 b i n e) = ∑ t : Fin 512, v (ix4 b t n e)
      * Ideal.div (weights q k (ix4 b n i t)) (∑ u : Fin 512, weights q k (ix4 b n i u)) := by
  pointwise [result]

/-- Of real queries and keys, an entry of the result is the mean of the values by the weights the kernel uses. -/
theorem result_mean (qr kr : S4x512x16x64.Idx → ℝ) (hq : ∀ i, q i = (qr i : EReal)) (hk : ∀ i, k i = (kr i : EReal))
    (b : Fin 4) (i : Fin 512) (n : Fin 16) (e : Fin 64) :
    result q k v (ix4 b i n e)
      = Ideal.div (∑ t : Fin 512, Cert.KernelIdeal.Attn.wt (fun e => q (ix4 b i n e)) (fun e => k (ix4 b t n e)) * v (ix4 b t n e))
          (∑ t : Fin 512, Cert.KernelIdeal.Attn.wt (fun e => q (ix4 b i n e)) (fun e => k (ix4 b t n e))) := by
  have hs : ∀ t, scores q k (ix4 b n i t)
      = ((Cert.KernelIdeal.Attn.score (fun e => qr (ix4 b i n e)) (fun e => kr (ix4 b t n e)) : ℝ) : EReal) := fun t => by
    rw [scores_at]
    simp only [hq, hk, ← EReal.coe_mul, Cert.KernelIdeal.Attn.coe_sum, Cert.KernelIdeal.Attn.score]
  obtain ⟨M, hM⟩ := Cert.KernelIdeal.Attn.fold_max_coe (by norm_num : 0 < 512)
    (fun u : Fin 512 => Cert.KernelIdeal.Attn.score (fun e => qr (ix4 b i n e)) (fun e => kr (ix4 b u n e)))
  have hw : ∀ t, weights q k (ix4 b n i t)
      = ((Real.exp (Cert.KernelIdeal.Attn.score (fun e => qr (ix4 b i n e)) (fun e => kr (ix4 b t n e)) - M) : ℝ) : EReal) := fun t => by
    rw [weights_at]
    simp only [hs]
    rw [hM, ← EReal.coe_sub, Ideal.exp_coe]
  rw [result_at]
  simp only [hw]
  rw [← Cert.KernelIdeal.Attn.mean_shift (by norm_num : 0 < 512)]
  simp only [hq, hk, Cert.KernelIdeal.Attn.wt_coe]

/-- The reference's run, by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = result (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.ReferenceIdeal.At
-- ==== Proof.Value.lean ====
module

public import proofs.«01_k».proof.Proof.Frames
public import proofs.«01_k».proof.Proof.OutAt
public import proofs.«01_k».proof.Proof.RefAt
public import Idealize.ShloMosaic.Lib.ReduceAll

/-!
# The value

Each device's result is its block of the reference's: the rows a device holds are one half of the whole array's, and those
of the device its remote part comes from are the other half.
-/

@[expose] public section

open Idealize.ShloMosaic Idealize.ShloMosaic.TcCoe
open Idealize.SL.Sem

noncomputable section

namespace Cert.Proof

open Cert.KernelIdeal Cert.KernelIdeal.Gen Cert.KernelIdeal.Attn

variable (m : (ℓ : Loc nD τ sig) → Buf (Elt Ideal) ℓ)

/-- Head `n`'s pair, and which of the pair it is. -/
def pairOf (n : Fin 16) : Fin 8 := ⟨n.val / 2, by omega⟩
def sideOf (n : Fin 16) : Fin 2 := ⟨n.val % 2, by omega⟩

/-- Row-major, heads and their columns laid side by side are the columns of a matrix. -/
theorem flat_at (x : FVec Ideal S4x256x16x64 .bf16) (h : S4x256x16x64.ShapeCasts S4x256x1024) (b : Fin 4) (r : Fin 256) (n : Fin 16) (e : Fin 64) :
    shapeCast S4x256x1024 x h (ix3 b r (col (pairOf n) (sideOf n) e)) = x (ix4 b r n e) := by
  have hc : col (pairOf n) (sideOf n) e = ⟨n.val * 64 + e.val, by omega⟩ :=
    Fin.ext (by simp only [col, pairOf, sideOf]; omega)
  have h1 : (n.val * 64 + e.val) / 64 = n.val := by omega
  have h2 : (n.val * 64 + e.val) % 64 = e.val := by omega
  rw [hc]
  pointwise [h1, h2]
theorem split_at (x : FVec Ideal S4x256x1024 .f32) (h : S4x256x1024.ShapeCasts S4x256x16x64) (b : Fin 4) (r : Fin 256) (n : Fin 16) (e : Fin 64) :
    shapeCast S4x256x16x64 x h (ix4 b r n e) = x (ix3 b r (col (pairOf n) (sideOf n) e)) := by
  have hc : col (pairOf n) (sideOf n) e = ⟨n.val * 64 + e.val, by omega⟩ :=
    Fin.ext (by simp only [col, pairOf, sideOf]; omega)
  rw [hc]
  pointwise

/-- A device's arguments. -/
abbrev argQ (d : Dev nD) : FVec Ideal S4x256x16x64 .f32 := m ((d : Thread nD τ).loc main_arg0)
abbrev argK (d : Dev nD) : FVec Ideal S4x256x16x64 .f32 := m ((d : Thread nD τ).loc main_arg1)
abbrev argV (d : Dev nD) : FVec Ideal S4x256x16x64 .f32 := m ((d : Thread nD τ).loc main_arg2)

theorem Qm_at (d : Dev nD) (b : Fin 4) (r : Fin 256) (n : Fin 16) (e : Fin 64) :
    Qm m d (ix3 b r (col (pairOf n) (sideOf n) e)) = argQ m d (ix4 b r n e) := by
  have h : Qm m d = shapeCast S4x256x1024 (truncf .bf16 (argQ m d) bitsLt_bf16_f32) shapeCasts_S4x256x16x64_S4x256x1024 := by
    show StableHlo.after hostOps0 (V₀ m d) _ = _
    after_results
    rfl
  rw [h]
  exact flat_at _ _ b r n e
theorem Km_at (d : Dev nD) (b : Fin 4) (r : Fin 256) (n : Fin 16) (e : Fin 64) :
    Km m d (ix3 b r (col (pairOf n) (sideOf n) e)) = argK m d (ix4 b r n e) := by
  have h : Km m d = shapeCast S4x256x1024 (truncf .bf16 (argK m d) bitsLt_bf16_f32) shapeCasts_S4x256x16x64_S4x256x1024 := by
    show StableHlo.after hostOps0 (V₀ m d) _ = _
    after_results
    rfl
  rw [h]
  exact flat_at _ _ b r n e
theorem Vm_at (d : Dev nD) (b : Fin 4) (r : Fin 256) (n : Fin 16) (e : Fin 64) :
    Vm m d (ix3 b r (col (pairOf n) (sideOf n) e)) = argV m d (ix4 b r n e) := by
  have h : Vm m d = shapeCast S4x256x1024 (truncf .bf16 (argV m d) bitsLt_bf16_f32) shapeCasts_S4x256x16x64_S4x256x1024 := by
    show StableHlo.after hostOps0 (V₀ m d) _ = _
    after_results
    rfl
  rw [h]
  exact flat_at _ _ b r n e

theorem out_at (d : Dev nD) (b : Fin 4) (r : Fin 256) (n : Fin 16) (e : Fin 64) :
    V₃ m d (Proc.devRef .tc main_v8) (ix4 b r n e) = outF (Qm m) (Km m) (Vm m) d (ix3 b r (col (pairOf n) (sideOf n) e)) := by
  have h : V₃ m d (Proc.devRef .tc main_v8) = shapeCast S4x256x16x64 (V₂ m d (Proc.devRef .tc main_v7)) shapeCasts_S4x256x1024_S4x256x16x64 := by
    show StableHlo.after hostOps1 (V₂ m d) _ = _
    after_results
    rfl
  rw [h, V₂_out]
  exact split_at _ _ b r n e

theorem finite_of (x : FVec Ideal S4x256x16x64 .f32) (i : S4x256x16x64.Idx)
    (h : cmpf (F := Ideal) .olt (Host.absf x) (fun _ => Ideal.ofBits .f32 0x7F800000#32) i = 1#1) :
    x i ≠ ⊤ ∧ x i ≠ ⊥ := by
  have ht : Ideal.ofBits .f32 0x7F800000#32 = ⊤ := by simp [Ideal.ofBits, Ideal.ieee]
  have h' : Ideal.cmp .olt (max (x i) (-(x i))) (Ideal.ofBits .f32 0x7F800000#32) = 1#1 := h
  rw [ht] at h'
  have hl : max (x i) (-(x i)) < ⊤ := by
    by_contra hn
    simp [Ideal.cmp, hn] at h'
  refine ⟨fun h => ?_, fun h => ?_⟩
  · rw [h] at hl
    simp at hl
  · rw [h] at hl
    simp at hl

theorem finite (h : Cert.Pre_KernelIdeal_finite_qk_KernelIdeal m) (d : Dev nD) (i : S4x256x16x64.Idx) :
    (argQ m d i ≠ ⊤ ∧ argQ m d i ≠ ⊥) ∧ argK m d i ≠ ⊤ ∧ argK m d i ≠ ⊥ := by
  have h0 := congrFun (h d) (fun a => a.elim0)
  dsimp only [Cert.Pre_finite_qk_KernelIdeal.fn] at h0
  obtain ⟨h1, h2⟩ := IntOp.andi_eq_one.1 h0
  haveI : Subsingleton Cert.Pre_finite_qk_KernelIdeal.S_.Idx := ⟨fun _ _ => funext fun a => a.elim0⟩
  exact ⟨finite_of _ i (Host.reduce_andi_all _ _ _ _ _ h1 i), finite_of _ i (Host.reduce_andi_all _ _ _ _ _ h2 i)⟩

/-- Row `r` of device `c`'s block, in the whole array. -/
def gr (c : Dev nD) (r : Fin 256) : Fin 512 := ⟨256 * (c.val % 2) + r.val, by omega⟩

/-- Device `c`'s block of the whole array. -/
abbrev blk {α : Type} (c : Dev nD) (x : Cert.ReferenceIdeal.S4x512x16x64.Idx → α) : S4x256x16x64.Idx → α :=
  Layout.blockN ⟨4, ![4, 256, 16, 64]⟩ ⟨4, ![4, 512, 16, 64]⟩ (Layout.meshBlock [2, 2] ![[], [1], [], []] c) x

theorem block_at {α : Type} (x : Cert.ReferenceIdeal.S4x512x16x64.Idx → α) (c : Dev nD) (b : Fin 4) (r : Fin 256) (n : Fin 16) (e : Fin 64) :
    blk c x (ix4 b r n e)
      = x (ix4 b (gr c r) n e) := by
  refine congrArg x (ext4 ?_ ?_ ?_ ?_)
  · show 0 * 4 + b.val = b.val
    omega
  · show (c.val / 1 % 2 * 1 + 0) * 256 + r.val = 256 * (c.val % 2) + r.val
    omega
  · show 0 * 16 + n.val = n.val
    omega
  · show 0 * 64 + e.val = e.val
    omega

/-- The rows of a device and of the one its remote part comes from are all the rows. -/
theorem sum_rows (c s : Dev nD) (hs : s.val % 2 = 1 - c.val % 2) (f : Fin 512 → EReal) :
    (∑ t : Fin 256, f (gr c t)) + ∑ t : Fin 256, f (gr s t) = ∑ t : Fin 512, f t := by
  have hh := Fin.sum_univ_two_halves 256 256 (by norm_num : 256 + 256 = 512) f
  have lo : ∀ d : Dev nD, d.val % 2 = 0 → ∀ t : Fin 256, gr d t = ⟨t.val, by omega⟩ := fun d hd t =>
    Fin.ext (by simp only [gr]; omega)
  have hi : ∀ d : Dev nD, d.val % 2 = 1 → ∀ t : Fin 256, gr d t = ⟨256 + t.val, by omega⟩ := fun d hd t =>
    Fin.ext (by simp only [gr]; omega)
  rcases Nat.mod_two_eq_zero_or_one c.val with hc | hc
  · simp only [lo c hc, hi s (by omega)]
    exact hh.symm
  · simp only [hi c hc, lo s (by omega)]
    rw [add_comm]
    exact hh.symm

theorem src_side (d : Dev nD) (b : Fin 4) : (src d b).val % 2 = 1 - d.val % 2 := by
  revert d b
  decide +kernel

/-- An array whose every block is real is real. -/
theorem real_of (x : Cert.ReferenceIdeal.S4x512x16x64.Idx → EReal)
    (h : ∀ (c : Dev nD) (b : Fin 4) (r : Fin 256) (n : Fin 16) (e : Fin 64), x (ix4 b (gr c r) n e) ≠ ⊤ ∧ x (ix4 b (gr c r) n e) ≠ ⊥)
    (i : Cert.ReferenceIdeal.S4x512x16x64.Idx) : x i = (((x i).toReal : ℝ) : EReal) := by
  have hi : i = ix4 (i 0) (gr ⟨(i 1).val / 256, by have := (i 1).isLt; show _ < 4; change _ < 512 at this; omega⟩
      ⟨(i 1).val % 256, by omega⟩) (i 2) (i 3) := by
    refine ext4 rfl ?_ rfl rfl
    have := (i 1).isLt
    change _ < 512 at this
    show (i 1).val = 256 * ((i 1).val / 256 % 2) + (i 1).val % 256
    omega
  have hf := h ⟨(i 1).val / 256, by have := (i 1).isLt; show _ < 4; change _ < 512 at this; omega⟩ (i 0) ⟨(i 1).val % 256, by omega⟩ (i 2) (i 3)
  have hx : x i ≠ ⊤ ∧ x i ≠ ⊥ := (congrArg (fun j => x j ≠ ⊤ ∧ x j ≠ ⊥) hi).mpr hf
  exact (EReal.coe_toReal hx.1 hx.2).symm

/-- Each device's result is its block of the reference's. -/
theorem value (A B C : FVec Ideal Cert.ReferenceIdeal.S4x512x16x64 .f32) (hpre : Cert.Pre_KernelIdeal_finite_qk_KernelIdeal m)
    (hA : ∀ c : Dev nD, argQ m c = blk c A)
    (hB : ∀ c : Dev nD, argK m c = blk c B)
    (hC : ∀ c : Dev nD, argV m c = blk c C)
    (c : Dev nD) :
    V₃ m c (Proc.devRef .tc main_v8) = blk c (Cert.ReferenceIdeal.At.result A B C) := by
  have eA : ∀ c b r n e, argQ m c (ix4 b r n e) = A (ix4 b (gr c r) n e) := fun c b r n e =>
    (congrFun (hA c) _).trans (block_at A c b r n e)
  have eB : ∀ c b r n e, argK m c (ix4 b r n e) = B (ix4 b (gr c r) n e) := fun c b r n e =>
    (congrFun (hB c) _).trans (block_at B c b r n e)
  have eC : ∀ c b r n e, argV m c (ix4 b r n e) = C (ix4 b (gr c r) n e) := fun c b r n e =>
    (congrFun (hC c) _).trans (block_at C c b r n e)
  have rA := real_of A fun c b r n e => eA c b r n e ▸ (finite m hpre c (ix4 b r n e)).1
  have rB := real_of B fun c b r n e => eB c b r n e ▸ (finite m hpre c (ix4 b r n e)).2
  funext i
  obtain ⟨b, r, n, e, rfl⟩ : ∃ (b : Fin 4) (r : Fin 256) (n : Fin 16) (e : Fin 64), i = ix4 b r n e :=
    ⟨i 0, i 1, i 2, i 3, ext4 rfl rfl rfl rfl⟩
  refine (out_at m c b r n e).trans (Eq.trans ?_ (block_at _ c b r n e).symm)
  have hw : ∀ (s : Dev nD) (t : Fin 256), aw (Qm m) (Km m) c s b (pairOf n) (sideOf n) r t
      = wt (fun e => A (ix4 b (gr c r) n e)) (fun e => B (ix4 b (gr s t) n e)) := fun s t => by
    unfold aw
    exact congrArg₂ wt (funext fun e => (Qm_at m c b r n e).trans (eA c b r n e)) (funext fun e => (Km_at m s b t n e).trans (eB s b t n e))
  have hv : ∀ (s : Dev nD) (t : Fin 256), Vm m s (ix3 b t (col (pairOf n) (sideOf n) e)) = C (ix4 b (gr s t) n e) := fun s t =>
    (Vm_at m s b t n e).trans (eC s b t n e)
  rw [outF_at, Cert.ReferenceIdeal.At.result_mean A B C _ _ rA rB]
  simp only [hw, hv]
  have h1 := sum_rows c (src c b) (src_side c b) fun t =>
    wt (fun e => A (ix4 b (gr c r) n e)) (fun e => B (ix4 b t n e)) * C (ix4 b t n e)
  have h2 := sum_rows c (src c b) (src_side c b) fun t => wt (fun e => A (ix4 b (gr c r) n e)) (fun e => B (ix4 b t n e))
  rw [← h1, ← h2]

theorem algebraic : Cert.algebraic_KernelIdeal_ReferenceIdeal_pre_finite_qk_KernelIdeal := fun m g m' g' hpre hblk =>
  ⟨Cert.ReferenceIdeal.At.result _ _ _,
    (θ_run Cert.KernelIdeal.defs _ _).mono
      (fun _ h c => ⟨(h.1 c).1.trans (value m _ _ _ hpre (fun c => (hblk c).1) (fun c => (hblk c).2.1) (fun c => (hblk c).2.2) c), (h.1 c).2⟩)
      (run_main m g),
    (θ_run Cert.ReferenceIdeal.defs _ _).mono (fun _ h => h 0) (Cert.ReferenceIdeal.At.run m' g')⟩

end Cert.Proof
-- ==== Proof.lean ====
module

public import proofs.«01_k».proof.Defs
public import proofs.«01_k».proof.Proof.Frames
public import proofs.«01_k».proof.Proof.Value

/-!
# The claim

The frames of the kernel, of its reading over the reals and of the reference; that the two kernels are one but for the
named constant; and that every device's result is its block of the reference's.
-/

@[expose] public section

namespace Cert.Proof

theorem claim : Cert.Claim :=
  ⟨Cert.Kernel.Gen.facts, Cert.KernelIdeal.Gen.facts, Cert.ReferenceIdeal.Gen.facts,
    Cert.Pre_finite_qk_KernelIdeal.Gen.facts, Cert.Pre_finite_qk_ReferenceIdeal.Gen.facts,
    frame_kernel, frame_ideal, frame_ideal_pre, frame_ref, frame_ref_pre, preserved, algebraic⟩

end Cert.Proof
